-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x2048x512 : Shape := ⟨3, ![2, 2048, 512]⟩
abbrev S2x1024x512 : Shape := ⟨3, ![2, 1024, 512]⟩
abbrev S2x512x512 : Shape := ⟨3, ![2, 512, 512]⟩
abbrev S24 : Shape := ⟨1, ![24]⟩
abbrev S_ : Shape := ⟨0, ![]⟩
abbrev S256x512 : Shape := ⟨2, ![256, 512]⟩
abbrev S1x256x512 : Shape := ⟨3, ![1, 256, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2x2048x512, .bf16⟩
  | .local _ .vmem, ⟨3, _⟩ => ⟨S2x1024x512, .bf16⟩
  | .local _ .vmem, ⟨4, _⟩ => ⟨S2x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_8 : BitVec 32 := 1#32
  let v15 : BitVec 32 := Scalar.muli v11 c1_i32_8
  let v16 : BitVec 32 := Scalar.addi c0_i32 v15
  v16.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_10 : BitVec 32 := 1#32
  let v17 : BitVec 32 := Scalar.muli v13 c1_i32_10
  let v18 : BitVec 32 := Scalar.addi c0_i32_11 v17
  v18.toNat
def k0_off1 (d0 : Dev nD) (c0_i32_15 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v19 : BitVec 32 := Scalar.subi c1_i32_13 v5
  let c1024_i32 : BitVec 32 := 1024#32
  let v20 : BitVec 32 := Scalar.muli v19 c1024_i32
  let c1_i32_14 : BitVec 32 := 1#32
  let c1_i32_2 : BitVec 32 := 1#32
  let v6 : BitVec 32 := Scalar.shrsi v4 c1_i32_2
  let c1_i32_3 : BitVec 32 := 1#32
  let v7 : BitVec 32 := Scalar.andi v6 c1_i32_3
  let v21 : BitVec 32 := Scalar.subi c1_i32_14 v7
  let c512_i32 : BitVec 32 := 512#32
  let v22 : BitVec 32 := Scalar.muli v21 c512_i32
  let v23 : BitVec 32 := Scalar.addi v20 v22
  let v24 : BitVec 32 := Scalar.addi v23 c0_i32_15
  let v25 : Index := Scalar.indexCast v24
  let c0 : Index := 0#32
  ![v25.toNat, 0]
def k0_off2 (d0 : Dev nD) (c0_i32_15 : BitVec 32) : Fin 3 → Nat :=
  let c0_16 : Index := 0#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v19 : BitVec 32 := Scalar.subi c1_i32_13 v5
  let c1024_i32 : BitVec 32 := 1024#32
  let v20 : BitVec 32 := Scalar.muli v19 c1024_i32
  let c1_i32_14 : BitVec 32 := 1#32
  let c1_i32_2 : BitVec 32 := 1#32
  let v6 : BitVec 32 := Scalar.shrsi v4 c1_i32_2
  let c1_i32_3 : BitVec 32 := 1#32
  let v7 : BitVec 32 := Scalar.andi v6 c1_i32_3
  let v21 : BitVec 32 := Scalar.subi c1_i32_14 v7
  let c512_i32 : BitVec 32 := 512#32
  let v22 : BitVec 32 := Scalar.muli v21 c512_i32
  let v23 : BitVec 32 := Scalar.addi v20 v22
  let v24 : BitVec 32 := Scalar.addi v23 c0_i32_15
  let v28 : Index := Scalar.indexCast v24
  let c0_17 : Index := 0#32
  ![0, v28.toNat, 0]
def k0_off3 (d0 : Dev nD) (c0_i32_15 : BitVec 32) : Fin 3 → Nat :=
  let c0_i32_18 : BitVec 32 := 0#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v19 : BitVec 32 := Scalar.subi c1_i32_13 v5
  let c1024_i32 : BitVec 32 := 1024#32
  let v20 : BitVec 32 := Scalar.muli v19 c1024_i32
  let c1_i32_14 : BitVec 32 := 1#32
  let c1_i32_2 : BitVec 32 := 1#32
  let v6 : BitVec 32 := Scalar.shrsi v4 c1_i32_2
  let c1_i32_3 : BitVec 32 := 1#32
  let v7 : BitVec 32 := Scalar.andi v6 c1_i32_3
  let v21 : BitVec 32 := Scalar.subi c1_i32_14 v7
  let c512_i32 : BitVec 32 := 512#32
  let v22 : BitVec 32 := Scalar.muli v21 c512_i32
  let v23 : BitVec 32 := Scalar.addi v20 v22
  let v24 : BitVec 32 := Scalar.addi v23 c0_i32_15
  let c0_i32_26 : BitVec 32 := 0#32
  ![0, v24.toNat, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_22 : BitVec 32 := 1#32
  let v32 : BitVec 32 := Scalar.muli v11 c1_i32_22
  let v33 : BitVec 32 := Scalar.addi c0_i32_23 v32
  v33.toNat
def k0_off4 (d0 : Dev nD) (c0_i32_31 : BitVec 32) : Fin 2 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let v42 : BitVec 32 := Scalar.subi c1_i32_27 v7
  let c1024_i32_28 : BitVec 32 := 1024#32
  let v43 : BitVec 32 := Scalar.muli v42 c1024_i32_28
  let c1_i32_29 : BitVec 32 := 1#32
  let c1_i32_1 : BitVec 32 := 1#32
  let v5 : BitVec 32 := Scalar.andi v4 c1_i32_1
  let v44 : BitVec 32 := Scalar.subi c1_i32_29 v5
  let c512_i32_30 : BitVec 32 := 512#32
  let v45 : BitVec 32 := Scalar.muli v44 c512_i32_30
  let v46 : BitVec 32 := Scalar.addi v43 v45
  let v47 : BitVec 32 := Scalar.addi v46 c0_i32_31
  let v48 : Index := Scalar.indexCast v47
  let c512 : Index := 512#32
  ![v48.toNat, 512]
def k0_off5 (d0 : Dev nD) (c0_i32_31 : BitVec 32) : Fin 3 → Nat :=
  let c1 : Index := 1#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let v42 : BitVec 32 := Scalar.subi c1_i32_27 v7
  let c1024_i32_28 : BitVec 32 := 1024#32
  let v43 : BitVec 32 := Scalar.muli v42 c1024_i32_28
  let c1_i32_29 : BitVec 32 := 1#32
  let c1_i32_1 : BitVec 32 := 1#32
  let v5 : BitVec 32 := Scalar.andi v4 c1_i32_1
  let v44 : BitVec 32 := Scalar.subi c1_i32_29 v5
  let c512_i32_30 : BitVec 32 := 512#32
  let v45 : BitVec 32 := Scalar.muli v44 c512_i32_30
  let v46 : BitVec 32 := Scalar.addi v43 v45
  let v47 : BitVec 32 := Scalar.addi v46 c0_i32_31
  let v51 : Index := Scalar.indexCast v47
  let c0_32 : Index := 0#32
  ![1, v51.toNat, 0]
def k0_off6 (d0 : Dev nD) (c0_i32_31 : BitVec 32) : Fin 3 → Nat :=
  let c1_i32_33 : BitVec 32 := 1#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let v42 : BitVec 32 := Scalar.subi c1_i32_27 v7
  let c1024_i32_28 : BitVec 32 := 1024#32
  let v43 : BitVec 32 := Scalar.muli v42 c1024_i32_28
  let c1_i32_29 : BitVec 32 := 1#32
  let c1_i32_1 : BitVec 32 := 1#32
  let v5 : BitVec 32 := Scalar.andi v4 c1_i32_1
  let v44 : BitVec 32 := Scalar.subi c1_i32_29 v5
  let c512_i32_30 : BitVec 32 := 512#32
  let v45 : BitVec 32 := Scalar.muli v44 c512_i32_30
  let v46 : BitVec 32 := Scalar.addi v43 v45
  let v47 : BitVec 32 := Scalar.addi v46 c0_i32_31
  let c0_i32_40 : BitVec 32 := 0#32
  ![1, v47.toNat, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_36 : BitVec 32 := 1#32
  let v55 : BitVec 32 := Scalar.muli v13 c1_i32_36
  let v56 : BitVec 32 := Scalar.addi c0_i32_37 v55
  v56.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_52 : BitVec 32 := 1#32
  let v78 : BitVec 32 := Scalar.muli v11 c1_i32_52
  let v79 : BitVec 32 := Scalar.addi c0_i32_53 v78
  v79.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_68 : BitVec 32 := 1#32
  let v101 : BitVec 32 := Scalar.muli v13 c1_i32_68
  let v102 : BitVec 32 := Scalar.addi c0_i32_69 v101
  v102.toNat
def k0_off7 (d0 : Dev nD) (c0_i32_76 : BitVec 32) : Fin 2 → Nat :=
  let c1_i32_73 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v111 : BitVec 32 := Scalar.subi c1_i32_73 v5
  let c1024_i32_74 : BitVec 32 := 1024#32
  let v112 : BitVec 32 := Scalar.muli v111 c1024_i32_74
  let c1_i32_2 : BitVec 32 := 1#32
  let v6 : BitVec 32 := Scalar.shrsi v4 c1_i32_2
  let c1_i32_3 : BitVec 32 := 1#32
  let v7 : BitVec 32 := Scalar.andi v6 c1_i32_3
  let c512_i32_75 : BitVec 32 := 512#32
  let v113 : BitVec 32 := Scalar.muli v7 c512_i32_75
  let v114 : BitVec 32 := Scalar.addi v112 v113
  let v115 : BitVec 32 := Scalar.addi v114 c0_i32_76
  let v116 : Index := Scalar.indexCast v115
  let c0_77 : Index := 0#32
  ![v116.toNat, 0]
def k0_off8 (d0 : Dev nD) (c0_i32_76 : BitVec 32) : Fin 3 → Nat :=
  let c0_78 : Index := 0#32
  let c1_i32_73 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v111 : BitVec 32 := Scalar.subi c1_i32_73 v5
  let c1024_i32_74 : BitVec 32 := 1024#32
  let v112 : BitVec 32 := Scalar.muli v111 c1024_i32_74
  let c1_i32_2 : BitVec 32 := 1#32
  let v6 : BitVec 32 := Scalar.shrsi v4 c1_i32_2
  let c1_i32_3 : BitVec 32 := 1#32
  let v7 : BitVec 32 := Scalar.andi v6 c1_i32_3
  let c512_i32_75 : BitVec 32 := 512#32
  let v113 : BitVec 32 := Scalar.muli v7 c512_i32_75
  let v114 : BitVec 32 := Scalar.addi v112 v113
  let v115 : BitVec 32 := Scalar.addi v114 c0_i32_76
  let v119 : Index := Scalar.indexCast v115
  let c0_79 : Index := 0#32
  ![0, v119.toNat, 0]
def k0_off9 (d0 : Dev nD) (c0_i32_76 : BitVec 32) : Fin 3 → Nat :=
  let c0_i32_80 : BitVec 32 := 0#32
  let c1_i32_73 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v111 : BitVec 32 := Scalar.subi c1_i32_73 v5
  let c1024_i32_74 : BitVec 32 := 1024#32
  let v112 : BitVec 32 := Scalar.muli v111 c1024_i32_74
  let c1_i32_2 : BitVec 32 := 1#32
  let v6 : BitVec 32 := Scalar.shrsi v4 c1_i32_2
  let c1_i32_3 : BitVec 32 := 1#32
  let v7 : BitVec 32 := Scalar.andi v6 c1_i32_3
  let c512_i32_75 : BitVec 32 := 512#32
  let v113 : BitVec 32 := Scalar.muli v7 c512_i32_75
  let v114 : BitVec 32 := Scalar.addi v112 v113
  let v115 : BitVec 32 := Scalar.addi v114 c0_i32_76
  let c0_i32_88 : BitVec 32 := 0#32
  ![0, v115.toNat, 0]
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_84 : BitVec 32 := 1#32
  let v123 : BitVec 32 := Scalar.muli v11 c1_i32_84
  let v124 : BitVec 32 := Scalar.addi c0_i32_85 v123
  v124.toNat
def k0_off10 (d0 : Dev nD) (c0_i32_92 : BitVec 32) : Fin 2 → Nat :=
  let c1_i32_89 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let v133 : BitVec 32 := Scalar.subi c1_i32_89 v7
  let c1024_i32_90 : BitVec 32 := 1024#32
  let v134 : BitVec 32 := Scalar.muli v133 c1024_i32_90
  let c1_i32_1 : BitVec 32 := 1#32
  let v5 : BitVec 32 := Scalar.andi v4 c1_i32_1
  let c512_i32_91 : BitVec 32 := 512#32
  let v135 : BitVec 32 := Scalar.muli v5 c512_i32_91
  let v136 : BitVec 32 := Scalar.addi v134 v135
  let v137 : BitVec 32 := Scalar.addi v136 c0_i32_92
  let v138 : Index := Scalar.indexCast v137
  let c512_93 : Index := 512#32
  ![v138.toNat, 512]
def k0_off11 (d0 : Dev nD) (c0_i32_92 : BitVec 32) : Fin 3 → Nat :=
  let c1_94 : Index := 1#32
  let c1_i32_89 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let v133 : BitVec 32 := Scalar.subi c1_i32_89 v7
  let c1024_i32_90 : BitVec 32 := 1024#32
  let v134 : BitVec 32 := Scalar.muli v133 c1024_i32_90
  let c1_i32_1 : BitVec 32 := 1#32
  let v5 : BitVec 32 := Scalar.andi v4 c1_i32_1
  let c512_i32_91 : BitVec 32 := 512#32
  let v135 : BitVec 32 := Scalar.muli v5 c512_i32_91
  let v136 : BitVec 32 := Scalar.addi v134 v135
  let v137 : BitVec 32 := Scalar.addi v136 c0_i32_92
  let v141 : Index := Scalar.indexCast v137
  let c0_95 : Index := 0#32
  ![1, v141.toNat, 0]
def k0_off12 (d0 : Dev nD) (c0_i32_92 : BitVec 32) : Fin 3 → Nat :=
  let c1_i32_96 : BitVec 32 := 1#32
  let c1_i32_89 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let v133 : BitVec 32 := Scalar.subi c1_i32_89 v7
  let c1024_i32_90 : BitVec 32 := 1024#32
  let v134 : BitVec 32 := Scalar.muli v133 c1024_i32_90
  let c1_i32_1 : BitVec 32 := 1#32
  let v5 : BitVec 32 := Scalar.andi v4 c1_i32_1
  let c512_i32_91 : BitVec 32 := 512#32
  let v135 : BitVec 32 := Scalar.muli v5 c512_i32_91
  let v136 : BitVec 32 := Scalar.addi v134 v135
  let v137 : BitVec 32 := Scalar.addi v136 c0_i32_92
  let c0_i32_103 : BitVec 32 := 0#32
  ![1, v137.toNat, 0]
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_99 : BitVec 32 := 1#32
  let v145 : BitVec 32 := Scalar.muli v13 c1_i32_99
  let v146 : BitVec 32 := Scalar.addi c0_i32_100 v145
  v146.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_114 : BitVec 32 := 1#32
  let v167 : BitVec 32 := Scalar.muli v11 c1_i32_114
  let v168 : BitVec 32 := Scalar.addi c0_i32_115 v167
  v168.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_128 : BitVec 32 := 1#32
  let v189 : BitVec 32 := Scalar.muli v13 c1_i32_128
  let v190 : BitVec 32 := Scalar.addi c0_i32_129 v189
  v190.toNat
def k0_off13 (d0 : Dev nD) (c0_i32_136 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_133 : BitVec 32 := 1024#32
  let v199 : BitVec 32 := Scalar.muli v5 c1024_i32_133
  let c1_i32_134 : BitVec 32 := 1#32
  let c1_i32_2 : BitVec 32 := 1#32
  let v6 : BitVec 32 := Scalar.shrsi v4 c1_i32_2
  let c1_i32_3 : BitVec 32 := 1#32
  let v7 : BitVec 32 := Scalar.andi v6 c1_i32_3
  let v200 : BitVec 32 := Scalar.subi c1_i32_134 v7
  let c512_i32_135 : BitVec 32 := 512#32
  let v201 : BitVec 32 := Scalar.muli v200 c512_i32_135
  let v202 : BitVec 32 := Scalar.addi v199 v201
  let v203 : BitVec 32 := Scalar.addi v202 c0_i32_136
  let v204 : Index := Scalar.indexCast v203
  let c0_137 : Index := 0#32
  ![v204.toNat, 0]
def k0_off14 (d0 : Dev nD) (c0_i32_136 : BitVec 32) : Fin 3 → Nat :=
  let c0_138 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_133 : BitVec 32 := 1024#32
  let v199 : BitVec 32 := Scalar.muli v5 c1024_i32_133
  let c1_i32_134 : BitVec 32 := 1#32
  let c1_i32_2 : BitVec 32 := 1#32
  let v6 : BitVec 32 := Scalar.shrsi v4 c1_i32_2
  let c1_i32_3 : BitVec 32 := 1#32
  let v7 : BitVec 32 := Scalar.andi v6 c1_i32_3
  let v200 : BitVec 32 := Scalar.subi c1_i32_134 v7
  let c512_i32_135 : BitVec 32 := 512#32
  let v201 : BitVec 32 := Scalar.muli v200 c512_i32_135
  let v202 : BitVec 32 := Scalar.addi v199 v201
  let v203 : BitVec 32 := Scalar.addi v202 c0_i32_136
  let v207 : Index := Scalar.indexCast v203
  let c0_139 : Index := 0#32
  ![0, v207.toNat, 0]
def k0_off15 (d0 : Dev nD) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let c1024_i32_140 : BitVec 32 := 1024#32
  let v211 : BitVec 32 := Scalar.muli v7 c1024_i32_140
  let c1_i32_141 : BitVec 32 := 1#32
  let c1_i32_1 : BitVec 32 := 1#32
  let v5 : BitVec 32 := Scalar.andi v4 c1_i32_1
  let v212 : BitVec 32 := Scalar.subi c1_i32_141 v5
  let c512_i32_142 : BitVec 32 := 512#32
  let v213 : BitVec 32 := Scalar.muli v212 c512_i32_142
  let v214 : BitVec 32 := Scalar.addi v211 v213
  let v215 : BitVec 32 := Scalar.addi v214 c0_i32_143
  let v216 : Index := Scalar.indexCast v215
  let c512_144 : Index := 512#32
  ![v216.toNat, 512]
def k0_off16 (d0 : Dev nD) (c0_i32_143 : BitVec 32) : Fin 3 → Nat :=
  let c1_145 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let c1024_i32_140 : BitVec 32 := 1024#32
  let v211 : BitVec 32 := Scalar.muli v7 c1024_i32_140
  let c1_i32_141 : BitVec 32 := 1#32
  let c1_i32_1 : BitVec 32 := 1#32
  let v5 : BitVec 32 := Scalar.andi v4 c1_i32_1
  let v212 : BitVec 32 := Scalar.subi c1_i32_141 v5
  let c512_i32_142 : BitVec 32 := 512#32
  let v213 : BitVec 32 := Scalar.muli v212 c512_i32_142
  let v214 : BitVec 32 := Scalar.addi v211 v213
  let v215 : BitVec 32 := Scalar.addi v214 c0_i32_143
  let v219 : Index := Scalar.indexCast v215
  let c0_146 : Index := 0#32
  ![1, v219.toNat, 0]
def k0_off17 (d0 : Dev nD) (c0_i32_163 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_161 : BitVec 32 := 1024#32
  let v247 : BitVec 32 := Scalar.muli v5 c1024_i32_161
  let c1_i32_2 : BitVec 32 := 1#32
  let v6 : BitVec 32 := Scalar.shrsi v4 c1_i32_2
  let c1_i32_3 : BitVec 32 := 1#32
  let v7 : BitVec 32 := Scalar.andi v6 c1_i32_3
  let c512_i32_162 : BitVec 32 := 512#32
  let v248 : BitVec 32 := Scalar.muli v7 c512_i32_162
  let v249 : BitVec 32 := Scalar.addi v247 v248
  let v250 : BitVec 32 := Scalar.addi v249 c0_i32_163
  let v251 : Index := Scalar.indexCast v250
  let c0_164 : Index := 0#32
  ![v251.toNat, 0]
def k0_off18 (d0 : Dev nD) (c0_i32_163 : BitVec 32) : Fin 3 → Nat :=
  let c0_165 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_161 : BitVec 32 := 1024#32
  let v247 : BitVec 32 := Scalar.muli v5 c1024_i32_161
  let c1_i32_2 : BitVec 32 := 1#32
  let v6 : BitVec 32 := Scalar.shrsi v4 c1_i32_2
  let c1_i32_3 : BitVec 32 := 1#32
  let v7 : BitVec 32 := Scalar.andi v6 c1_i32_3
  let c512_i32_162 : BitVec 32 := 512#32
  let v248 : BitVec 32 := Scalar.muli v7 c512_i32_162
  let v249 : BitVec 32 := Scalar.addi v247 v248
  let v250 : BitVec 32 := Scalar.addi v249 c0_i32_163
  let v254 : Index := Scalar.indexCast v250
  let c0_166 : Index := 0#32
  ![0, v254.toNat, 0]
def k0_off19 (d0 : Dev nD) (c0_i32_169 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let c1024_i32_167 : BitVec 32 := 1024#32
  let v258 : BitVec 32 := Scalar.muli v7 c1024_i32_167
  let c1_i32_1 : BitVec 32 := 1#32
  let v5 : BitVec 32 := Scalar.andi v4 c1_i32_1
  let c512_i32_168 : BitVec 32 := 512#32
  let v259 : BitVec 32 := Scalar.muli v5 c512_i32_168
  let v260 : BitVec 32 := Scalar.addi v258 v259
  let v261 : BitVec 32 := Scalar.addi v260 c0_i32_169
  let v262 : Index := Scalar.indexCast v261
  let c512_170 : Index := 512#32
  ![v262.toNat, 512]
def k0_off20 (d0 : Dev nD) (c0_i32_169 : BitVec 32) : Fin 3 → Nat :=
  let c1_171 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let c1024_i32_167 : BitVec 32 := 1024#32
  let v258 : BitVec 32 := Scalar.muli v7 c1024_i32_167
  let c1_i32_1 : BitVec 32 := 1#32
  let v5 : BitVec 32 := Scalar.andi v4 c1_i32_1
  let c512_i32_168 : BitVec 32 := 512#32
  let v259 : BitVec 32 := Scalar.muli v5 c512_i32_168
  let v260 : BitVec 32 := Scalar.addi v258 v259
  let v261 : BitVec 32 := Scalar.addi v260 c0_i32_169
  let v265 : Index := Scalar.indexCast v261
  let c0_172 : Index := 0#32
  ![1, v265.toNat, 0]
def k0_off21 (d0 : Dev nD) (c0_i32_197 : BitVec 32) : Fin 3 → Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_194 : BitVec 32 := 1024#32
  let v299 : BitVec 32 := Scalar.muli v5 c1024_i32_194
  let c1_i32_195 : BitVec 32 := 1#32
  let c1_i32_2 : BitVec 32 := 1#32
  let v6 : BitVec 32 := Scalar.shrsi v4 c1_i32_2
  let c1_i32_3 : BitVec 32 := 1#32
  let v7 : BitVec 32 := Scalar.andi v6 c1_i32_3
  let v300 : BitVec 32 := Scalar.subi c1_i32_195 v7
  let c512_i32_196 : BitVec 32 := 512#32
  let v301 : BitVec 32 := Scalar.muli v300 c512_i32_196
  let v302 : BitVec 32 := Scalar.addi v299 v301
  let v303 : BitVec 32 := Scalar.addi v302 c0_i32_197
  let c0_i32_213 : BitVec 32 := 0#32
  ![0, v303.toNat, 0]
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_209 : BitVec 32 := 1#32
  let v314 : BitVec 32 := Scalar.muli v13 c1_i32_209
  let v315 : BitVec 32 := Scalar.addi c0_i32_210 v314
  v315.toNat
def k0_off22 (d0 : Dev nD) (c0_i32_226 : BitVec 32) : Fin 3 → Nat :=
  let c1_i32_234 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let c1024_i32_223 : BitVec 32 := 1024#32
  let v332 : BitVec 32 := Scalar.muli v7 c1024_i32_223
  let c1_i32_224 : BitVec 32 := 1#32
  let c1_i32_1 : BitVec 32 := 1#32
  let v5 : BitVec 32 := Scalar.andi v4 c1_i32_1
  let v333 : BitVec 32 := Scalar.subi c1_i32_224 v5
  let c512_i32_225 : BitVec 32 := 512#32
  let v334 : BitVec 32 := Scalar.muli v333 c512_i32_225
  let v335 : BitVec 32 := Scalar.addi v332 v334
  let v336 : BitVec 32 := Scalar.addi v335 c0_i32_226
  let c0_i32_241 : BitVec 32 := 0#32
  ![1, v336.toNat, 0]
def k0_dev12 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_237 : BitVec 32 := 1#32
  let v347 : BitVec 32 := Scalar.muli v11 c1_i32_237
  let v348 : BitVec 32 := Scalar.addi c0_i32_238 v347
  v348.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_264 : BitVec 32 := 1#32
  let v380 : BitVec 32 := Scalar.muli v13 c1_i32_264
  let v381 : BitVec 32 := Scalar.addi c0_i32_265 v380
  v381.toNat
def k0_dev14 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_292 : BitVec 32 := 1#32
  let v413 : BitVec 32 := Scalar.muli v11 c1_i32_292
  let v414 : BitVec 32 := Scalar.addi c0_i32_293 v413
  v414.toNat
def k0_off23 (d0 : Dev nD) (c0_i32_383 : BitVec 32) : Fin 3 → Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_381 : BitVec 32 := 1024#32
  let v519 : BitVec 32 := Scalar.muli v5 c1024_i32_381
  let c1_i32_2 : BitVec 32 := 1#32
  let v6 : BitVec 32 := Scalar.shrsi v4 c1_i32_2
  let c1_i32_3 : BitVec 32 := 1#32
  let v7 : BitVec 32 := Scalar.andi v6 c1_i32_3
  let c512_i32_382 : BitVec 32 := 512#32
  let v520 : BitVec 32 := Scalar.muli v7 c512_i32_382
  let v521 : BitVec 32 := Scalar.addi v519 v520
  let v522 : BitVec 32 := Scalar.addi v521 c0_i32_383
  let c0_i32_396 : BitVec 32 := 0#32
  ![0, v522.toNat, 0]
def k0_dev15 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_394 : BitVec 32 := 1#32
  let v533 : BitVec 32 := Scalar.muli v13 c1_i32_394
  let v534 : BitVec 32 := Scalar.addi c0_i32_395 v533
  v534.toNat
def k0_dev16 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_401 : BitVec 32 := 1#32
  let v543 : BitVec 32 := Scalar.muli v11 c1_i32_401
  let v544 : BitVec 32 := Scalar.addi c0_i32_402 v543
  v544.toNat
def k0_off24 (d0 : Dev nD) (c0_i32_419 : BitVec 32) : Fin 3 → Nat :=
  let c1_i32_428 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_2 : BitVec 32 := 1#32
  let v6 : BitVec 32 := Scalar.shrsi v4 c1_i32_2
  let c1_i32_3 : BitVec 32 := 1#32
  let v7 : BitVec 32 := Scalar.andi v6 c1_i32_3
  let c1024_i32_417 : BitVec 32 := 1024#32
  let v566 : BitVec 32 := Scalar.muli v7 c1024_i32_417
  let c1_i32_1 : BitVec 32 := 1#32
  let v5 : BitVec 32 := Scalar.andi v4 c1_i32_1
  let c512_i32_418 : BitVec 32 := 512#32
  let v567 : BitVec 32 := Scalar.muli v5 c512_i32_418
  let v568 : BitVec 32 := Scalar.addi v566 v567
  let v569 : BitVec 32 := Scalar.addi v568 c0_i32_419
  let c0_i32_432 : BitVec 32 := 0#32
  ![1, v569.toNat, 0]
def k0_dev17 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_430 : BitVec 32 := 1#32
  let v580 : BitVec 32 := Scalar.muli v11 c1_i32_430
  let v581 : BitVec 32 := Scalar.addi c0_i32_431 v580
  v581.toNat
def k0_dev18 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_437 : BitVec 32 := 1#32
  let v590 : BitVec 32 := Scalar.muli v13 c1_i32_437
  let v591 : BitVec 32 := Scalar.addi c0_i32_438 v590
  v591.toNat
def k0_dev19 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_466 : BitVec 32 := 1#32
  let v627 : BitVec 32 := Scalar.muli v13 c1_i32_466
  let v628 : BitVec 32 := Scalar.addi c0_i32_467 v627
  v628.toNat
def k0_dev20 (d0 : Dev nD) : Nat :=
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_473 : BitVec 32 := 1#32
  let v637 : BitVec 32 := Scalar.muli v11 c1_i32_473
  let v638 : BitVec 32 := Scalar.addi c0_i32_474 v637
  v638.toNat
def k0_dev21 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_502 : BitVec 32 := 1#32
  let v674 : BitVec 32 := Scalar.muli v11 c1_i32_502
  let v675 : BitVec 32 := Scalar.addi c0_i32_503 v674
  v675.toNat
def k0_dev22 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_509 : BitVec 32 := 1#32
  let v684 : BitVec 32 := Scalar.muli v13 c1_i32_509
  let v685 : BitVec 32 := Scalar.addi c0_i32_510 v684
  v685.toNat
def k0_dev23 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_531 : BitVec 32 := 1#32
  let v712 : BitVec 32 := Scalar.muli v11 c1_i32_531
  let v713 : BitVec 32 := Scalar.addi c0_i32_532 v712
  v713.toNat
def k0_dev24 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_553 : BitVec 32 := 1#32
  let v740 : BitVec 32 := Scalar.muli v13 c1_i32_553
  let v741 : BitVec 32 := Scalar.addi c0_i32_554 v740
  v741.toNat
def k0_dev25 (d0 : Dev nD) : Nat :=
  let c0_i32_576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_4 : BitVec 32 := 1#32
  let v8 : BitVec 32 := Scalar.xori v4 c1_i32_4
  let c1_i32_5 : BitVec 32 := 1#32
  let v10 : BitVec 32 := Scalar.shrsi v8 c1_i32_5
  let v11 : BitVec 32 := Scalar.xori v8 v10
  let c1_i32_575 : BitVec 32 := 1#32
  let v768 : BitVec 32 := Scalar.muli v11 c1_i32_575
  let v769 : BitVec 32 := Scalar.addi c0_i32_576 v768
  v769.toNat
def k0_dev26 (d0 : Dev nD) : Nat :=
  let c0_i32_598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c2_i32 : BitVec 32 := 2#32
  let v9 : BitVec 32 := Scalar.xori v4 c2_i32
  let c1_i32_6 : BitVec 32 := 1#32
  let v12 : BitVec 32 := Scalar.shrsi v9 c1_i32_6
  let v13 : BitVec 32 := Scalar.xori v9 v12
  let c1_i32_597 : BitVec 32 := 1#32
  let v796 : BitVec 32 := Scalar.muli v13 c1_i32_597
  let v797 : BitVec 32 := Scalar.addi c0_i32_598 v796
  v797.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2048x1024, .bf16⟩
  | .hbm, ⟨2, _⟩ => ⟨S4x2048x1024, .f32⟩
  | .hbm, ⟨3, _⟩ => ⟨S_, .f32⟩
  | .hbm, ⟨4, _⟩ => ⟨S2048x1024, .f32⟩
  | .hbm, ⟨5, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Script.lean ====
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

/-! # The body as phases

The kernel's body is a straight line of some two hundred operations. Here the same operations are grouped:
filling a piece of the accumulator from the input, sending a piece, waiting, adding a received piece, copying a
finished piece out; and the groups are run phase by phase over lists of (piece, column half). `body_eq` says the
printed body is these phases, by unfolding. -/

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-! ## Buffers and semaphores -/

abbrev xM : Memref sig .tc .vmem S2048x1024 .bf16 := Memref.whole cc0_stg0_0
abbrev outM : Memref sig .tc .vmem S2048x1024 .bf16 := Memref.whole cc0_stg1_0
abbrev accM : Memref sig .tc .vmem S2x2048x512 .bf16 := Memref.whole cc0_scratch0
abbrev s1M : Memref sig .tc .vmem S2x1024x512 .bf16 := Memref.whole cc0_scratch1
abbrev s2M : Memref sig .tc .vmem S2x512x512 .bf16 := Memref.whole cc0_scratch2

/-- The send semaphore of transfer `i` of column half `d`. -/
abbrev sendS (d : Fin 2) (i : Fin 12) : DmaSem sig := ⟨2 + (12 * d.val + i.val), by have := d.isLt; have := i.isLt; show _ < 50; omega⟩
/-- The receive semaphore of transfer `i` of column half `d`. -/
abbrev recvS (d : Fin 2) (i : Fin 12) : DmaSem sig := ⟨26 + (12 * d.val + i.val), by have := d.isLt; have := i.isLt; show _ < 50; omega⟩

/-! ## The printed offsets, by column half and piece number

`N` names the half of the rows a device gives away in its first exchange, `K` the half it keeps; the number is
the place of the piece within the half. -/

/-- Where piece `N j` of half `d` lies in the input and in the output. -/
def inN (d : Fin 2) (j : Fin 4) (c : Dev nD) : Fin 2 → Nat :=
  match d, j with
  | 0, 0 => k0_off1 c 0#32
  | 0, 1 => k0_off1 c 256#32
  | 0, 2 => k0_off7 c 0#32
  | 0, 3 => k0_off7 c 256#32
  | 1, 0 => k0_off4 c 0#32
  | 1, 1 => k0_off4 c 256#32
  | 1, 2 => k0_off10 c 0#32
  | 1, 3 => k0_off10 c 256#32

/-- Where piece `K j` lies in the input and in the output. -/
def inK (d : Fin 2) (j : Fin 4) (c : Dev nD) : Fin 2 → Nat :=
  match d, j with
  | 0, 0 => k0_off13 c 0#32
  | 0, 1 => k0_off13 c 256#32
  | 0, 2 => k0_off17 c 0#32
  | 0, 3 => k0_off17 c 256#32
  | 1, 0 => k0_off15 c 0#32
  | 1, 1 => k0_off15 c 256#32
  | 1, 2 => k0_off19 c 0#32
  | 1, 3 => k0_off19 c 256#32

/-- Where piece `N j` lies in the accumulator, as loads and stores spell it. -/
def acN (d : Fin 2) (j : Fin 4) (c : Dev nD) : Fin 3 → Nat :=
  match d, j with
  | 0, 0 => k0_off2 c 0#32
  | 0, 1 => k0_off2 c 256#32
  | 0, 2 => k0_off8 c 0#32
  | 0, 3 => k0_off8 c 256#32
  | 1, 0 => k0_off5 c 0#32
  | 1, 1 => k0_off5 c 256#32
  | 1, 2 => k0_off11 c 0#32
  | 1, 3 => k0_off11 c 256#32

/-- Where piece `K j` lies in the accumulator, as loads and stores spell it. -/
def acK (d : Fin 2) (j : Fin 4) (c : Dev nD) : Fin 3 → Nat :=
  match d, j with
  | 0, 0 => k0_off14 c 0#32
  | 0, 1 => k0_off14 c 256#32
  | 0, 2 => k0_off18 c 0#32
  | 0, 3 => k0_off18 c 256#32
  | 1, 0 => k0_off16 c 0#32
  | 1, 1 => k0_off16 c 256#32
  | 1, 2 => k0_off20 c 0#32
  | 1, 3 => k0_off20 c 256#32

/-- Where piece `N j` lies in the accumulator, as transfers spell it. -/
def slN (d : Fin 2) (j : Fin 4) (c : Dev nD) : Fin 3 → Nat :=
  match d, j with
  | 0, 0 => k0_off3 c 0#32
  | 0, 1 => k0_off3 c 256#32
  | 0, 2 => k0_off9 c 0#32
  | 0, 3 => k0_off9 c 256#32
  | 1, 0 => k0_off6 c 0#32
  | 1, 1 => k0_off6 c 256#32
  | 1, 2 => k0_off12 c 0#32
  | 1, 3 => k0_off12 c 256#32

/-- Where piece `K j` lies in the accumulator, as transfers spell it. -/
def slK (d : Fin 2) (j : Fin 4) (c : Dev nD) : Fin 3 → Nat :=
  match d, j with
  | 0, 0 => k0_off21 c 0#32
  | 0, 1 => k0_off21 c 256#32
  | 0, 2 => k0_off23 c 0#32
  | 0, 3 => k0_off23 c 256#32
  | 1, 0 => k0_off22 c 0#32
  | 1, 1 => k0_off22 c 256#32
  | 1, 2 => k0_off24 c 0#32
  | 1, 3 => k0_off24 c 256#32

/-- The device transfer `i` of column half `d` is addressed to. -/
def tdev (d : Fin 2) (i : Fin 12) (c : Dev nD) : Dev nD :=
  match d, i with
  | 0, 0 => ⟨k0_dev3 c, k0_dev3_lt c⟩
  | 0, 1 => ⟨k0_dev5 c, k0_dev5_lt c⟩
  | 0, 2 => ⟨k0_dev7 c, k0_dev7_lt c⟩
  | 0, 3 => ⟨k0_dev9 c, k0_dev9_lt c⟩
  | 0, 4 => ⟨k0_dev11 c, k0_dev11_lt c⟩
  | 0, 5 => ⟨k0_dev13 c, k0_dev13_lt c⟩
  | 0, 6 => ⟨k0_dev15 c, k0_dev15_lt c⟩
  | 0, 7 => ⟨k0_dev19 c, k0_dev19_lt c⟩
  | 0, 8 => ⟨k0_dev23 c, k0_dev23_lt c⟩
  | 0, 9 => ⟨k0_dev25 c, k0_dev25_lt c⟩
  | 0, 10 => ⟨k0_dev16 c, k0_dev16_lt c⟩
  | 0, 11 => ⟨k0_dev20 c, k0_dev20_lt c⟩
  | 1, 0 => ⟨k0_dev4 c, k0_dev4_lt c⟩
  | 1, 1 => ⟨k0_dev6 c, k0_dev6_lt c⟩
  | 1, 2 => ⟨k0_dev8 c, k0_dev8_lt c⟩
  | 1, 3 => ⟨k0_dev10 c, k0_dev10_lt c⟩
  | 1, 4 => ⟨k0_dev12 c, k0_dev12_lt c⟩
  | 1, 5 => ⟨k0_dev14 c, k0_dev14_lt c⟩
  | 1, 6 => ⟨k0_dev17 c, k0_dev17_lt c⟩
  | 1, 7 => ⟨k0_dev21 c, k0_dev21_lt c⟩
  | 1, 8 => ⟨k0_dev24 c, k0_dev24_lt c⟩
  | 1, 9 => ⟨k0_dev26 c, k0_dev26_lt c⟩
  | 1, 10 => ⟨k0_dev18 c, k0_dev18_lt c⟩
  | 1, 11 => ⟨k0_dev22 c, k0_dev22_lt c⟩

theorem inN_inb : ∀ (d : Fin 2) (j : Fin 4) (c : Dev nD) (a : Fin 2), inN d j c a + S256x512.size a ≤ S2048x1024.size a := by decide +kernel
theorem inK_inb : ∀ (d : Fin 2) (j : Fin 4) (c : Dev nD) (a : Fin 2), inK d j c a + S256x512.size a ≤ S2048x1024.size a := by decide +kernel
theorem acN_inb : ∀ (d : Fin 2) (j : Fin 4) (c : Dev nD) (a : Fin 3), acN d j c a + S1x256x512.size a ≤ S2x2048x512.size a := by decide +kernel
theorem acK_inb : ∀ (d : Fin 2) (j : Fin 4) (c : Dev nD) (a : Fin 3), acK d j c a + S1x256x512.size a ≤ S2x2048x512.size a := by decide +kernel
theorem slN_inb : ∀ (d : Fin 2) (j : Fin 4) (c : Dev nD) (a : Fin 3), slN d j c a + S1x256x512.size a ≤ S2x2048x512.size a := by decide +kernel
theorem slK_inb : ∀ (d : Fin 2) (j : Fin 4) (c : Dev nD) (a : Fin 3), slK d j c a + S1x256x512.size a ≤ S2x2048x512.size a := by decide +kernel

theorem inN_packed : ∀ (d : Fin 2) (j : Fin 4) (c : Dev nD), (Rect.unit (s := S2048x1024) (inN d j c) S256x512.size (inN_inb d j c)).PackedRows (EltTy.packing .bf16) := by decide +kernel
theorem inK_packed : ∀ (d : Fin 2) (j : Fin 4) (c : Dev nD), (Rect.unit (s := S2048x1024) (inK d j c) S256x512.size (inK_inb d j c)).PackedRows (EltTy.packing .bf16) := by decide +kernel
theorem acN_packed : ∀ (d : Fin 2) (j : Fin 4) (c : Dev nD), (Rect.unit (s := S2x2048x512) (acN d j c) S1x256x512.size (acN_inb d j c)).PackedRows (EltTy.packing .bf16) := by decide +kernel
theorem acK_packed : ∀ (d : Fin 2) (j : Fin 4) (c : Dev nD), (Rect.unit (s := S2x2048x512) (acK d j c) S1x256x512.size (acK_inb d j c)).PackedRows (EltTy.packing .bf16) := by decide +kernel
theorem slN_words : ∀ (d : Fin 2) (j : Fin 4) (c : Dev nD), (Rect.unit (s := S2x2048x512) (slN d j c) S1x256x512.size (slN_inb d j c)).WholeWords (EltTy.packing .bf16) := by decide +kernel
theorem slK_words : ∀ (d : Fin 2) (j : Fin 4) (c : Dev nD), (Rect.unit (s := S2x2048x512) (slK d j c) S1x256x512.size (slK_inb d j c)).WholeWords (EltTy.packing .bf16) := by decide +kernel

/-- Where piece `j` of half `d` lands in the first receive buffer. -/
def s1o (d : Fin 2) (j : Fin 4) : Fin 3 → Nat := ![d.val, 256 * j.val, 0]
/-- Where piece `j` of half `d` lands in the second receive buffer. -/
def s2o (d : Fin 2) (j : Fin 2) : Fin 3 → Nat := ![d.val, 256 * j.val, 0]
theorem s1o_inb : ∀ (d : Fin 2) (j : Fin 4) (a : Fin 3), s1o d j a + S1x256x512.size a ≤ S2x1024x512.size a := by decide
theorem s2o_inb : ∀ (d : Fin 2) (j : Fin 2) (a : Fin 3), s2o d j a + S1x256x512.size a ≤ S2x512x512.size a := by decide
theorem s1o_words : ∀ (d : Fin 2) (j : Fin 4), (Rect.unit (s := S2x1024x512) (s1o d j) S1x256x512.size (s1o_inb d j)).WholeWords (EltTy.packing .bf16) := by decide +kernel
theorem s2o_words : ∀ (d : Fin 2) (j : Fin 2), (Rect.unit (s := S2x512x512) (s2o d j) S1x256x512.size (s2o_inb d j)).WholeWords (EltTy.packing .bf16) := by decide +kernel

/-! ## The pieces as memrefs -/

abbrev PieceM : Type := Memref sig .tc .vmem S1x256x512 .bf16
abbrev pN (d : Fin 2) (j : Fin 4) (c : Dev nD) : PieceM :=
  accM.slice (Rect.unit (s := S2x2048x512) (slN d j c) S1x256x512.size (slN_inb d j c)) (fun _ => rfl)
abbrev pK (d : Fin 2) (j : Fin 4) (c : Dev nD) : PieceM :=
  accM.slice (Rect.unit (s := S2x2048x512) (slK d j c) S1x256x512.size (slK_inb d j c)) (fun _ => rfl)
abbrev p1 (d : Fin 2) (j : Fin 4) : PieceM :=
  s1M.slice (Rect.unit (s := S2x1024x512) (s1o d j) S1x256x512.size (s1o_inb d j)) (fun _ => rfl)
abbrev p2 (d : Fin 2) (j : Fin 2) : PieceM :=
  s2M.slice (Rect.unit (s := S2x512x512) (s2o d j) S1x256x512.size (s2o_inb d j)) (fun _ => rfl)
abbrev flat (M : PieceM) : Memref sig .tc .vmem S256x512 .bf16 := M.squeeze S256x512 squeezes_S1x256x512_S256x512

theorem pN_exact (d : Fin 2) (j : Fin 4) (c : Dev nD) : (flat (pN d j c)).view.WordExact :=
  ((Memref.isWhole_whole cc0_scratch0).wordExact_slice rfl _ (slN_words d j c)).reshape _ _
theorem pK_exact (d : Fin 2) (j : Fin 4) (c : Dev nD) : (flat (pK d j c)).view.WordExact :=
  ((Memref.isWhole_whole cc0_scratch0).wordExact_slice rfl _ (slK_words d j c)).reshape _ _
theorem p1_exact (d : Fin 2) (j : Fin 4) : (flat (p1 d j)).view.WordExact :=
  ((Memref.isWhole_whole cc0_scratch1).wordExact_slice rfl _ (s1o_words d j)).reshape _ _
theorem p2_exact (d : Fin 2) (j : Fin 2) : (flat (p2 d j)).view.WordExact :=
  ((Memref.isWhole_whole cc0_scratch2).wordExact_slice rfl _ (s2o_words d j)).reshape _ _

/-! ## The groups of operations, each in front of the program that follows -/

/-- The programs of a core of this kernel. -/
abbrev P : Type 1 := Prog (TpuEff nD τ sig (Elt F) Λ₀ .tc) PUnit

/-- One unit to device `c'`'s barrier semaphore. -/
def gSignal (c' : Dev nD) (k : P (F := F)) : P (F := F) := .op (.semSignal (Dev.tc c') barrier0 1) fun _ => k
/-- Two units awaited on the own barrier semaphore. -/
def gBarrier (k : P (F := F)) : P (F := F) := .op (.semWait barrier0 2) fun _ => k
/-- A piece of the accumulator stored from the input. -/
def gFill {ox : Fin 2 → Nat} (hx : ∀ a, ox a + S256x512.size a ≤ S2048x1024.size a) {oa : Fin 3 → Nat}
    (ha : ∀ a, oa a + S1x256x512.size a ≤ S2x2048x512.size a)
    (hp : (Rect.unit (s := S2x2048x512) oa S1x256x512.size ha).PackedRows (EltTy.packing .bf16)) (k : P (F := F)) : P (F := F) :=
  .op (.load xM (Rect.unit (s := S2048x1024) ox S256x512.size hx).toLoadRect (View.loadsAt_vmem h_S256x512)) fun v =>
  .op (.load accM (Rect.unit (s := S2x2048x512) oa S1x256x512.size ha).toLoadRect (View.loadsAt_vmem h_S1x256x512)) fun _ =>
  .op (.store accM (Rect.unit (s := S2x2048x512) oa S1x256x512.size ha) (k0_pay3 v) Finset.univ
    (View.stores_vmem h_S1x256x512 ((Memref.isWhole_whole cc0_scratch0).storeExact_slice rfl _ hp) (fun _ => rfl)) (.inl rfl)) fun _ => k
/-- A piece sent to device `c'`. -/
def gSend (A B : PieceM) (hA : (flat A).view.WordExact) (hB : (flat B).view.WordExact) (c' : Dev nD) (s r : DmaSem sig) (k : P (F := F)) : P (F := F) :=
  .op (.enqueueDma (flat A) (.remote (Dev.tc c') (flat B) (.dma s)) (.dma r) hA hB ⟨⟨rfl, Or.inl rfl⟩, trivial⟩) fun _ => k
/-- A transfer awaited on the DMA semaphore `s`. -/
def gWait (s : DmaSem sig) (A B : PieceM) (hA : (flat A).view.WordExact) (hB : (flat B).view.WordExact) (k : P (F := F)) : P (F := F) :=
  .op (.waitDma2 s (flat A) (flat B) hA hB) fun _ => k
/-- A received piece added onto a piece of the accumulator. -/
def gAdd {sz : Fin 3 → Nat} (M : Memref sig .tc .vmem ⟨3, sz⟩ .bf16) {oa : Fin 3 → Nat}
    (ha : ∀ a, oa a + S1x256x512.size a ≤ S2x2048x512.size a)
    (hp : (Rect.unit (s := S2x2048x512) oa S1x256x512.size ha).PackedRows (EltTy.packing .bf16))
    {ob : Fin 3 → Nat} (hb : ∀ a, ob a + S1x256x512.size a ≤ sz a) (k : P (F := F)) : P (F := F) :=
  .op (.load accM (Rect.unit (s := S2x2048x512) oa S1x256x512.size ha).toLoadRect (View.loadsAt_vmem h_S1x256x512)) fun v =>
  .op (.load M (Rect.unit (s := ⟨3, sz⟩) ob S1x256x512.size hb).toLoadRect (View.loadsAt_vmem h_S1x256x512)) fun w =>
  .op (.load accM (Rect.unit (s := S2x2048x512) oa S1x256x512.size ha).toLoadRect (View.loadsAt_vmem h_S1x256x512)) fun _ =>
  .op (.store accM (Rect.unit (s := S2x2048x512) oa S1x256x512.size ha) (k0_pay19 v w) Finset.univ
    (View.stores_vmem h_S1x256x512 ((Memref.isWhole_whole cc0_scratch0).storeExact_slice rfl _ hp) (fun _ => rfl)) (.inl rfl)) fun _ => k
/-- A piece of the accumulator copied to the output. -/
def gOut {ox : Fin 2 → Nat} (hx : ∀ a, ox a + S256x512.size a ≤ S2048x1024.size a)
    (hq : (Rect.unit (s := S2048x1024) ox S256x512.size hx).PackedRows (EltTy.packing .bf16)) {oa : Fin 3 → Nat}
    (ha : ∀ a, oa a + S1x256x512.size a ≤ S2x2048x512.size a) (k : P (F := F)) : P (F := F) :=
  .op (.load accM (Rect.unit (s := S2x2048x512) oa S1x256x512.size ha).toLoadRect (View.loadsAt_vmem h_S1x256x512)) fun v =>
  .op (.load outM (Rect.unit (s := S2048x1024) ox S256x512.size hx).toLoadRect (View.loadsAt_vmem h_S256x512)) fun _ =>
  .op (.store outM (Rect.unit (s := S2048x1024) ox S256x512.size hx) (k0_pay32 v) Finset.univ
    (View.stores_vmem h_S256x512 ((Memref.isWhole_whole cc0_stg1_0).storeExact_slice rfl _ hq) (fun _ => rfl)) (.inl rfl)) fun _ => k

/-! ## The phases -/

/-- Every (piece, half), in the order the kernel visits them. -/
abbrev L4 : List (Fin 4 × Fin 2) := [(0, 0), (0, 1), (1, 0), (1, 1), (2, 0), (2, 1), (3, 0), (3, 1)]
/-- The same for the pieces of one quarter. -/
abbrev L2 : List (Fin 2 × Fin 2) := [(0, 0), (0, 1), (1, 0), (1, 1)]
/-- The piece numbers of the first and of the second quarter of a half. -/
abbrev lo (i : Fin 2) : Fin 4 := ⟨i.val, by omega⟩
abbrev hi (i : Fin 2) : Fin 4 := ⟨2 + i.val, by omega⟩
/-- The transfer numbers of the exchanges: first (four pieces), second, third and fourth. -/
abbrev t1 (j : Fin 4) : Fin 12 := ⟨j.val, by omega⟩
abbrev t2 (i : Fin 2) : Fin 12 := ⟨4 + i.val, by omega⟩
abbrev t3 (i : Fin 2) : Fin 12 := ⟨6 + i.val, by omega⟩
abbrev t4 (j : Fin 4) : Fin 12 := ⟨8 + j.val, by omega⟩

variable (c : Dev nD)

/-- Exchange 1: fill a piece to give away, and send it. -/
def f1 (x : Fin 4 × Fin 2) (k : P (F := F)) : P (F := F) :=
  gFill (inN_inb x.2 x.1 c) (acN_inb x.2 x.1 c) (acN_packed x.2 x.1 c) <|
  gSend (pN x.2 x.1 c) (p1 x.2 x.1) (pN_exact _ _ _) (p1_exact _ _) (tdev x.2 (t1 x.1) c) (sendS x.2 (t1 x.1)) (recvS x.2 (t1 x.1)) k
/-- Fill a piece to keep. -/
def f2 (x : Fin 4 × Fin 2) (k : P (F := F)) : P (F := F) :=
  gFill (inK_inb x.2 x.1 c) (acK_inb x.2 x.1 c) (acK_packed x.2 x.1 c) k
/-- Await a piece of exchange 1 and add it on. -/
def f3 (x : Fin 4 × Fin 2) (k : P (F := F)) : P (F := F) :=
  gWait (recvS x.2 (t1 x.1)) (pN x.2 x.1 c) (p1 x.2 x.1) (pN_exact _ _ _) (p1_exact _ _) <|
  gAdd s1M (acK_inb x.2 x.1 c) (acK_packed x.2 x.1 c) (s1o_inb x.2 x.1) k
/-- The same for a piece of the first quarter, which exchange 2 then sends on. -/
def f3s (x : Fin 2 × Fin 2) (k : P (F := F)) : P (F := F) :=
  f3 c (lo x.1, x.2) <|
  gSend (pK x.2 (lo x.1) c) (p2 x.2 x.1) (pK_exact _ _ _) (p2_exact _ _) (tdev x.2 (t2 x.1) c) (sendS x.2 (t2 x.1)) (recvS x.2 (t2 x.1)) k
/-- Await a piece of exchange 2, add it on: the piece is finished. Send it to both partners and copy it out. -/
def f4 (x : Fin 2 × Fin 2) (k : P (F := F)) : P (F := F) :=
  gWait (recvS x.2 (t2 x.1)) (pK x.2 (lo x.1) c) (p2 x.2 x.1) (pK_exact _ _ _) (p2_exact _ _) <|
  gAdd s2M (acK_inb x.2 (hi x.1) c) (acK_packed x.2 (hi x.1) c) (s2o_inb x.2 x.1) <|
  gSend (pK x.2 (hi x.1) c) (pK x.2 (hi x.1) c) (pK_exact _ _ _) (pK_exact _ _ _) (tdev x.2 (t3 x.1) c) (sendS x.2 (t3 x.1)) (recvS x.2 (t3 x.1)) <|
  gSend (pK x.2 (hi x.1) c) (pK x.2 (hi x.1) c) (pK_exact _ _ _) (pK_exact _ _ _) (tdev x.2 (t4 (hi x.1)) c) (sendS x.2 (t4 (hi x.1))) (recvS x.2 (t4 (hi x.1))) <|
  gOut (inK_inb x.2 (hi x.1) c) (inK_packed x.2 (hi x.1) c) (acK_inb x.2 (hi x.1) c) k
/-- Await a finished piece of exchange 3, send it on and copy it out. -/
def f5 (x : Fin 2 × Fin 2) (k : P (F := F)) : P (F := F) :=
  gWait (recvS x.2 (t3 x.1)) (pK x.2 (hi x.1) c) (pK x.2 (hi x.1) c) (pK_exact _ _ _) (pK_exact _ _ _) <|
  gSend (pK x.2 (lo x.1) c) (pK x.2 (lo x.1) c) (pK_exact _ _ _) (pK_exact _ _ _) (tdev x.2 (t4 (lo x.1)) c) (sendS x.2 (t4 (lo x.1))) (recvS x.2 (t4 (lo x.1))) <|
  gOut (inK_inb x.2 (lo x.1) c) (inK_packed x.2 (lo x.1) c) (acK_inb x.2 (lo x.1) c) k
/-- Await a finished piece of exchange 4 and copy it out. -/
def f6 (x : Fin 4 × Fin 2) (k : P (F := F)) : P (F := F) :=
  gWait (recvS x.2 (t4 x.1)) (pK x.2 x.1 c) (pK x.2 x.1 c) (pK_exact _ _ _) (pK_exact _ _ _) <|
  gOut (inN_inb x.2 x.1 c) (inN_packed x.2 x.1 c) (acN_inb x.2 x.1 c) k
/-- The waits for the own sends, exchange by exchange. -/
def w1 (x : Fin 4 × Fin 2) (k : P (F := F)) : P (F := F) :=
  gWait (sendS x.2 (t1 x.1)) (p1 x.2 x.1) (pN x.2 x.1 c) (p1_exact _ _) (pN_exact _ _ _) k
def w2 (x : Fin 2 × Fin 2) (k : P (F := F)) : P (F := F) :=
  gWait (sendS x.2 (t2 x.1)) (p2 x.2 x.1) (pK x.2 (lo x.1) c) (p2_exact _ _) (pK_exact _ _ _) k
def w3 (x : Fin 2 × Fin 2) (k : P (F := F)) : P (F := F) :=
  gWait (sendS x.2 (t3 x.1)) (pK x.2 (hi x.1) c) (pK x.2 (hi x.1) c) (pK_exact _ _ _) (pK_exact _ _ _) <|
  gWait (sendS x.2 (t4 (hi x.1))) (pK x.2 (hi x.1) c) (pK x.2 (hi x.1) c) (pK_exact _ _ _) (pK_exact _ _ _) k
def w4 (x : Fin 2 × Fin 2) (k : P (F := F)) : P (F := F) :=
  gWait (sendS x.2 (t4 (lo x.1))) (pK x.2 (lo x.1) c) (pK x.2 (lo x.1) c) (pK_exact _ _ _) (pK_exact _ _ _) k

/-- The body of device `c`, phase by phase. -/
def phases : P (F := F) :=
  gSignal ⟨k0_dev1 c, k0_dev1_lt c⟩ <| gSignal ⟨k0_dev2 c, k0_dev2_lt c⟩ <| gBarrier <|
  L4.foldr (f1 c) <| L4.foldr (f2 c) <| L2.foldr (f3s c) <| L2.foldr (fun x => f3 c (hi x.1, x.2)) <|
  L2.foldr (f4 c) <| L2.foldr (f5 c) <| L4.foldr (f6 c) <|
  L4.foldr (w1 c) <| L2.foldr (w2 c) <| L2.foldr (w3 c) <| L2.foldr (w4 c) <| .ret ⟨⟩

set_option maxRecDepth 65536 in
set_option maxHeartbeats 4000000 in
/-- The printed body, at the launch's buffers and semaphores, is its phases. -/
theorem body_eq : cc0_body_skel (F := F) xM (Memref.isWhole_whole _) outM (Memref.isWhole_whole _) accM (Memref.isWhole_whole _)
    s1M (Memref.isWhole_whole _) s2M (Memref.isWhole_whole _) cc0_scratch3 cc0_scratch4 = .op .deviceId fun c => phases c := rfl

end Cert.AllReduce

end
-- ==== Proof.Geometry.lean ====
module

public import proofs.«01_k».proof.Proof.Script

/-! # Partners and pieces

Each device has two partners, one per column half and exchange. The accumulator is cut in sixteen pieces, a half and one
of eight row blocks each; which blocks a device gives away and which it keeps follows from its two coordinates. This
module names partners and pieces and decides that the printed offsets and device numbers are those. -/

@[expose] public section

noncomputable section

namespace Cert.AllReduce

open Cert.KernelIdeal Cert.KernelIdeal.Gen
open Idealize.ShloMosaic
open Idealize.ShloMosaic.TcCoe

/-! ## Partners -/

/-- The partner of device `c` in the first exchange of half `d`. -/
def pal (d : Fin 2) (c : Dev nD) : Dev nD := if d = 0 then ⟨c.val ^^^ 1, by revert c; decide⟩ else ⟨3 - c.val, by show 3 - c.val < 4; omega⟩
/-- The other half. -/
def alt (d : Fin 2) : Fin 2 := 1 - d
/-- The partner in the second exchange of half `d`. -/
def mate (d : Fin 2) (c : Dev nD) : Dev nD := pal (alt d) c

theorem alt_alt : ∀ d, alt (alt d) = d := by decide
theorem pal_pal : ∀ d c, pal d (pal d c) = c := by decide
theorem mate_mate : ∀ d c, mate d (mate d c) = c := by decide

/-- The coordinate of `c` that the first exchange of half `d` flips. -/
def bit (d : Fin 2) (c : Dev nD) : Nat := if d = 0 then (c.val ^^^ c.val / 2) % 2 else c.val / 2

/-- The row block of the `j`-th piece given away in the first exchange. -/
def nk (d : Fin 2) (j : Fin 4) (c : Dev nD) : Fin 8 :=
  Fin.ofNat 8 ((1 - bit d c) * 4 + (if j.val < 2 then 1 - bit (alt d) c else bit (alt d) c) * 2 + j.val % 2)
/-- The row block of the `j`-th piece kept. -/
def kp (d : Fin 2) (j : Fin 4) (c : Dev nD) : Fin 8 :=
  Fin.ofNat 8 (bit d c * 4 + (if j.val < 2 then 1 - bit (alt d) c else bit (alt d) c) * 2 + j.val % 2)

theorem kp_pal : ∀ d j c, kp d j (pal d c) = nk d j c := by decide
theorem nk_pal : ∀ d j c, nk d j (pal d c) = kp d j c := by decide
theorem kp_mate_lo : ∀ d i c, kp d (lo i) (mate d c) = kp d (hi i) c := by decide
theorem kp_mate_hi : ∀ d i c, kp d (hi i) (mate d c) = kp d (lo i) c := by decide

/-- The device that finishes row block `ρ` of half `d`, and the block's number there. -/
def own (d : Fin 2) (ρ : Fin 8) : Dev nD :=
  match ρ.val / 4, ρ.val / 2 % 2 with
  | 0, 0 => 0
  | 1, 1 => 2
  | 1, _ => if d = 0 then 1 else 3
  | _, _ => if d = 0 then 3 else 1
def num (ρ : Fin 8) : Fin 2 := Fin.ofNat 2 ρ.val
theorem own_kp : ∀ d i c, own d (kp d (hi i) c) = c := by decide
theorem num_kp : ∀ d i c, num (kp d (hi i) c) = i := by decide

/-- A device's given-away and kept pieces are all pieces. -/
def pieces (c : Dev nD) : (Fin 4 × Fin 2) ⊕ (Fin 4 × Fin 2) → Fin 2 × Fin 8
  | .inl x => (x.2, nk x.2 x.1 c)
  | .inr x => (x.2, kp x.2 x.1 c)
theorem pieces_bij : ∀ c, Function.Bijective (pieces c) := by decide +kernel

/-! ## Pieces -/

/-- Where piece `ρ` of half `d` lies in the accumulator. -/
abbrev ao (d : Fin 2) (ρ : Fin 8) : Fin 3 → Nat := ![d.val, 256 * ρ.val, 0]
/-- Where piece `ρ` of half `d` lies in the input and in the output. -/
abbrev xo (d : Fin 2) (ρ : Fin 8) : Fin 2 → Nat := ![256 * ρ.val, 512 * d.val]
theorem ao_inb : ∀ (d : Fin 2) (ρ : Fin 8) (a : Fin 3), ao d ρ a + S1x256x512.size a ≤ S2x2048x512.size a := by decide
theorem xo_inb : ∀ (d : Fin 2) (ρ : Fin 8) (a : Fin 2), xo d ρ a + S256x512.size a ≤ S2048x1024.size a := by decide

abbrev aR (x : Fin 2 × Fin 8) : Rect S2x2048x512 := Rect.unit (s := S2x2048x512) (ao x.1 x.2) S1x256x512.size (ao_inb x.1 x.2)
abbrev xR (x : Fin 2 × Fin 8) : Rect S2048x1024 := Rect.unit (s := S2048x1024) (xo x.1 x.2) S256x512.size (xo_inb x.1 x.2)
abbrev r1 (x : Fin 4 × Fin 2) : Rect S2x1024x512 := Rect.unit (s := S2x1024x512) (s1o x.2 x.1) S1x256x512.size (s1o_inb x.2 x.1)
abbrev r2 (x : Fin 2 × Fin 2) : Rect S2x512x512 := Rect.unit (s := S2x512x512) (s2o x.2 x.1) S1x256x512.size (s2o_inb x.2 x.1)

/-- Piece `ρ` of half `d` of the accumulator, and of the output. -/
abbrev pA (d : Fin 2) (ρ : Fin 8) : PieceM := accM.slice (aR (d, ρ)) (fun _ => rfl)
abbrev pO (d : Fin 2) (ρ : Fin 8) : Memref sig .tc .vmem S256x512 .bf16 := outM.slice (xR (d, ρ)) (fun _ => rfl)

theorem inN_eq : ∀ d j c, inN d j c = xo d (nk d j c) := by decide +kernel
theorem inK_eq : ∀ d j c, inK d j c = xo d (kp d j c) := by decide +kernel
theorem acN_eq : ∀ d j c, acN d j c = ao d (nk d j c) := by decide +kernel
theorem acK_eq : ∀ d j c, acK d j c = ao d (kp d j c) := by decide +kernel
theorem slN_eq : ∀ d j c, slN d j c = ao d (nk d j c) := by decide +kernel
theorem slK_eq : ∀ d j c, slK d j c = ao d (kp d j c) := by decide +kernel

theorem slice_congr {o o' : Fin 3 → Nat} (h : o = o') (p : ∀ a, o a + S1x256x512.size a ≤ S2x2048x512.size a)
    (p' : ∀ a, o' a + S1x256x512.size a ≤ S2x2048x512.size a) :
    (accM.slice (Rect.unit (s := S2x2048x512) o S1x256x512.size p) (fun _ => rfl) : PieceM)
      = accM.slice (Rect.unit (s := S2x2048x512) o' S1x256x512.size p') (fun _ => rfl) := by
  subst h; rfl
theorem pN_eq (d : Fin 2) (j : Fin 4) (c : Dev nD) : pN d j c = pA d (nk d j c) := slice_congr (slN_eq d j c) _ _
theorem pK_eq (d : Fin 2) (j : Fin 4) (c : Dev nD) : pK d j c = pA d (kp d j c) := slice_congr (slK_eq d j c) _ _

/-! ### The pieces cut the buffers -/

/-- Two pieces of one buffer at different halves or row blocks are disjoint, -/
theorem piece_disjoint {n : Nat} {d ρ d' ρ' : Nat} (h : d ≠ d' ∨ ρ ≠ ρ')
    (p : ∀ a : Fin 3, (![d, 256 * ρ, 0] : Fin 3 → Nat) a + S1x256x512.size a ≤ (![2, n, 512] : Fin 3 → Nat) a)
    (p' : ∀ a : Fin 3, (![d', 256 * ρ', 0] : Fin 3 → Nat) a + S1x256x512.size a ≤ (![2, n, 512] : Fin 3 → Nat) a) :
    Disjoint (Rect.unit (s := ⟨3, ![2, n, 512]⟩) ![d, 256 * ρ, 0] S1x256x512.size p).set
      (Rect.unit (s := ⟨3, ![2, n, 512]⟩) ![d', 256 * ρ', 0] S1x256x512.size p').set := by
  rcases h with h | h
  · exact Rect.unit_disjoint 0 (by show d + 1 ≤ d' ∨ d' + 1 ≤ d; omega)
  · exact Rect.unit_disjoint 1 (by show 256 * ρ + 256 ≤ 256 * ρ' ∨ 256 * ρ' + 256 ≤ 256 * ρ; omega)

/-- and an index lies in the piece its coordinates name. -/
theorem piece_mem {n : Nat} {d ρ : Nat} (x : Shape.Idx ⟨3, ![2, n, 512]⟩) (h0 : (x 0).val = d) (h1 : (x 1).val / 256 = ρ)
    (p : ∀ a : Fin 3, (![d, 256 * ρ, 0] : Fin 3 → Nat) a + S1x256x512.size a ≤ (![2, n, 512] : Fin 3 → Nat) a) :
    x ∈ (Rect.unit (s := ⟨3, ![2, n, 512]⟩) ![d, 256 * ρ, 0] S1x256x512.size p).set := by
  rw [Rect.mem_set_unit]
  intro a
  fin_cases a
  · show d ≤ (x 0).val ∧ (x 0).val < d + 1; omega
  · show 256 * ρ ≤ (x 1).val ∧ (x 1).val < 256 * ρ + 256; omega
  · have h2 : (x 2).val < 512 := (x 2).isLt
    show 0 ≤ (x 2).val ∧ (x 2).val < 0 + 512; omega

theorem aR_disjoint (x y : Fin 2 × Fin 8) (h : x ≠ y) : Disjoint (aR x).set (aR y).set :=
  piece_disjoint (by by_contra hn; push Not at hn; exact h (Prod.ext (Fin.ext hn.1) (Fin.ext hn.2))) _ _
theorem r1_disjoint (x y : Fin 4 × Fin 2) (h : x ≠ y) : Disjoint (r1 x).set (r1 y).set :=
  piece_disjoint (by by_contra hn; push Not at hn; exact h (Prod.ext (Fin.ext hn.2) (Fin.ext hn.1))) _ _
theorem r2_disjoint (x y : Fin 2 × Fin 2) (h : x ≠ y) : Disjoint (r2 x).set (r2 y).set :=
  piece_disjoint (by by_contra hn; push Not at hn; exact h (Prod.ext (Fin.ext hn.2) (Fin.ext hn.1))) _ _
theorem aR_cover : (Finset.univ : Finset (Fin 2 × Fin 8)).biUnion (fun x => (aR x).set) = Finset.univ :=
  Finset.eq_univ_iff_forall.mpr fun x => Finset.mem_biUnion.mpr
    ⟨(⟨(x 0).val, (x 0).isLt⟩, ⟨(x 1).val / 256, by have : (x 1).val < 2048 := (x 1).isLt; omega⟩), Finset.mem_univ _, piece_mem x rfl rfl _⟩
theorem r1_cover : (Finset.univ : Finset (Fin 4 × Fin 2)).biUnion (fun x => (r1 x).set) = Finset.univ :=
  Finset.eq_univ_iff_forall.mpr fun x => Finset.mem_biUnion.mpr
    ⟨(⟨(x 1).val / 256, by have : (x 1).val < 1024 := (x 1).isLt; omega⟩, ⟨(x 0).val, (x 0).isLt⟩), Finset.mem_univ _, piece_mem x rfl rfl _⟩
theorem r2_cover : (Finset.univ : Finset (Fin 2 × Fin 2)).biUnion (fun x => (r2 x).set) = Finset.univ :=
  Finset.eq_univ_iff_forall.mpr fun x => Finset.mem_biUnion.mpr
    ⟨(⟨(x 1).val / 256, by have : (x 1).val < 512 := (x 1).isLt; omega⟩, ⟨(x 0).val, (x 0).isLt⟩), Finset.mem_univ _, piece_mem x rfl rfl _⟩
theorem xR_disjoint (x y : Fin 2 × Fin 8) (h : x ≠ y) : Disjoint (xR x).set (xR y).set := by
  by_cases h1 : x.1 = y.1
  · have h2 : x.2.val ≠ y.2.val := fun e => h (Prod.ext h1 (Fin.ext e))
    exact Rect.unit_disjoint 0 (by show 256 * x.2.val + 256 ≤ 256 * y.2.val ∨ 256 * y.2.val + 256 ≤ 256 * x.2.val; omega)
  · have h2 : x.1.val ≠ y.1.val := fun e => h1 (Fin.ext e)
    exact Rect.unit_disjoint 1 (by show 512 * x.1.val + 512 ≤ 512 * y.1.val ∨ 512 * y.1.val + 512 ≤ 512 * x.1.val; omega)
theorem xR_cover : (Finset.univ : Finset (Fin 2 × Fin 8)).biUnion (fun x => (xR x).set) = Finset.univ :=
  Finset.eq_univ_iff_forall.mpr fun x => Finset.mem_biUnion.mpr
    ⟨(⟨(x 1).val / 512, by have : (x 1).val < 1024 := (x 1).isLt; omega⟩, ⟨(x 0).val / 256, by have : (x 0).val < 2048 := (x 0).isLt; omega⟩),
      Finset.mem_univ _, by
        rw [Rect.mem_set_unit]
        intro a
        fin_cases a
        · show 256 * ((x 0).val / 256) ≤ (x 0).val ∧ (x 0).val < 256 * ((x 0).val / 256) + 256; omega
        · show 512 * ((x 1).val / 512) ≤ (x 1).val ∧ (x 1).val < 512 * ((x 1).val / 512) + 512; omega⟩

end Cert.AllReduce

end
-- ==== Proof.Sched.lean ====
module

public import proofs.«01_k».proof.Proof.Geometry

/-! # What every semaphore carries

One round per semaphore. The schedule says what each raise of a semaphore hands over: at the start a partner's landing
buffers, then the pieces the transfers write, together with the sender's piece whenever the sender is later to receive
into it. -/

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds and this kernel's -/

abbrev UK : Type := URounds (GSem nD τ sig) (Fin 2)
abbrev UU : Type := UR sig nD τ × UK

local notation "𝕄" => MT nD τ sig Unit (Elt F) ℕ UU ℕ

abbrev EP : Emb (UR sig nD τ) (MT nD τ sig Unit (Elt F) ℕ UU ℕ) := embL
abbrev EK : Emb UK (MT nD τ sig Unit (Elt F) ℕ UU ℕ) := embR
abbrev 𝒱₀ : Variants := Variants.none

/-! ## Contents -/

/-- The input block each device stages. -/
abbrev Inputs (F : FTy → Type) : Type := Dev nD → (cc0_stg0_0 : Ref sig .tc).ty.Contents (Elt F)
/-- A piece's contents, as accumulator and landing buffers hold them. -/
abbrev Piece (F : FTy → Type) : Type := S1x256x512.Idx → Elt F .bf16

variable (X : Inputs F)

/-- Piece `ρ` of half `d` of device `c`'s input, stored in the accumulator. -/
def inP (d : Fin 2) (ρ : Fin 8) (c : Dev nD) : Piece F := k0_pay3 ((xM.access (xR (d, ρ))).read (Elt F) (X c))
/-- A kept piece after the first exchange: the own input plus the first partner's. -/
def sumA (d : Fin 2) (j : Fin 4) (c : Dev nD) : Piece F :=
  k0_pay19 (inP X d (kp d j c) c) (inP X d (kp d j c) (pal d c))
/-- A piece after the second exchange: the own partial sum plus the second partner's. -/
def sumB (d : Fin 2) (i : Fin 2) (c : Dev nD) : Piece F := k0_pay19 (sumA X d (hi i) c) (sumA X d (lo i) (mate d c))
/-- The finished piece `ρ` of half `d`, as the device that finishes it computes it. -/
def fin (d : Fin 2) (ρ : Fin 8) : Piece F := sumB X d (num ρ) (own d ρ)

theorem fin_kp (d i : Fin 2) (c : Dev nD) : fin X d (kp d (hi i) c) = sumB X d i c := by
  unfold fin; rw [own_kp, num_kp]

/-! ## Cells -/

/-- The transfer semaphores, by side (send 0, receive 1), half and transfer number. -/
abbrev XK : Type := Fin 2 × Fin 2 × Fin 12
/-- All semaphores of the kernel: the barrier's and the transfers'. -/
abbrev Key : Type := Unit ⊕ XK

/-- The semaphore of a transfer key, and of any key. -/
def xsem (k : XK) : SemLoc sig := .dma (if k.1 = 0 then sendS k.2.1 k.2.2 else recvS k.2.1 k.2.2)
def ksem : Key → SemLoc sig
  | .inl _ => .reg barrier0
  | .inr k => xsem k
/-- The key of a semaphore, if it is one of the kernel's. -/
def key : SemLoc sig → Option Key
  | .reg _ => some (.inl ())
  | .dma q => if h : q.val < 2 then none
      else some (.inr (Fin.ofNat 2 ((q.val - 2) / 24), Fin.ofNat 2 ((q.val - 2) % 24 / 12), Fin.ofNat 12 ((q.val - 2) % 12)))
theorem key_ksem : ∀ k, key (ksem k) = some k := by decide +kernel

/-- The cell of a key on a device. -/
abbrev cell (c : Dev nD) (k : Key) : GSem nD τ sig := ((c : Thread nD τ), ksem k)
abbrev barC (c : Dev nD) : GSem nD τ sig := ((c : Thread nD τ), .reg barrier0)
abbrev sndC (c : Dev nD) (d : Fin 2) (i : Fin 12) : GSem nD τ sig := ((c : Thread nD τ), .dma (sendS d i))
abbrev rcvC (c : Dev nD) (d : Fin 2) (i : Fin 12) : GSem nD τ sig := ((c : Thread nD τ), .dma (recvS d i))

theorem cell_inj {c c' : Dev nD} {k k' : Key} (h : cell c k = cell c' k') : c = c' ∧ k = k' := by
  refine ⟨congrArg (fun g : GSem nD τ sig => g.1.1) h, ?_⟩
  have := congrArg key (congrArg Prod.snd h)
  rw [key_ksem, key_ksem] at this
  exact Option.some.inj this

/-- The credit a transfer of a piece raises. -/
abbrev N : ℕ := (flat (p1 0 0)).view.dmaCredit
theorem N_pos : 0 < N := View.dmaCredit_pos _ (by decide)

/-! ## Payloads -/

/-- A piece's memref owned on device `c` whatever it holds. -/
def any (c : Dev nD) {sp : Space} {s : Shape} {e : EltTy} (M : Memref sig .tc sp s e) : sProp 𝕄 := iprop(∃ Y, owns (c : Thread nD τ) M fullShare Y)
/-- A memref owned in full on device `c` at `Y`, and at a share. -/
abbrev at1 (c : Dev nD) {sp : Space} {s : Shape} {e : EltTy} (M : Memref sig .tc sp s e) (Y : s.Idx → Elt F e) : sProp 𝕄 := owns (c : Thread nD τ) M fullShare Y
abbrev atq (c : Dev nD) {sp : Space} {s : Shape} {e : EltTy} (M : Memref sig .tc sp s e) (q : PosShare TreeShare) (Y : s.Idx → Elt F e) : sProp 𝕄 := owns (c : Thread nD τ) M q Y

/-- The shares of a finished piece: two lent to transfers and one kept. -/
abbrev qa : PosShare TreeShare := fullShare.left
abbrev qr : PosShare TreeShare := fullShare.right
abbrev qb : PosShare TreeShare := fullShare.right.left
abbrev qk : PosShare TreeShare := fullShare.right.right

/-- What the signal of partner `pal d c` hands `c`: the partner's buffers `c`'s transfers to it will land in. -/
def barPay (c : Dev nD) (d : Fin 2) : sProp 𝕄 :=
  iprop((bigSep Finset.univ fun j : Fin 4 => any (F := F) (pal d c) (p1 d j))
    ∗ bigSep Finset.univ fun i : Fin 2 => any (F := F) (pal d c) (p2 (alt d) i))

/-- What a landing of the first exchange hands over: the landed piece, and the sender's own piece it was read from. -/
def pay1 (d : Fin 2) (j : Fin 4) (c : Dev nD) : sProp 𝕄 :=
  iprop(at1 c (p1 d j) (inP X d (kp d j c) (pal d c)) ∗ at1 (pal d c) (pA d (kp d j c)) (inP X d (kp d j c) (pal d c)))
/-- The same for the second exchange; -/
def pay2 (d : Fin 2) (i : Fin 2) (c : Dev nD) : sProp 𝕄 :=
  iprop(at1 c (p2 d i) (sumA X d (lo i) (mate d c)) ∗ at1 (mate d c) (pA d (kp d (hi i) c)) (sumA X d (lo i) (mate d c)))
/-- a landing of the third or fourth hands over a finished piece. -/
def pay3 (d : Fin 2) (i : Fin 2) (c : Dev nD) : sProp 𝕄 := at1 c (pA d (kp d (lo i) c)) (fin X d (kp d (lo i) c))
def pay4 (d : Fin 2) (j : Fin 4) (c : Dev nD) : sProp 𝕄 := at1 c (pA d (nk d j c)) (fin X d (nk d j c))

/-- What the end of a send of a finished piece gives back: the share lent. -/
def back3 (d : Fin 2) (i : Fin 2) (c : Dev nD) : sProp 𝕄 := atq c (pA d (kp d (hi i) c)) qa (fin X d (kp d (hi i) c))
def back4h (d : Fin 2) (i : Fin 2) (c : Dev nD) : sProp 𝕄 := atq c (pA d (kp d (hi i) c)) qb (fin X d (kp d (hi i) c))
def back4l (d : Fin 2) (i : Fin 2) (c : Dev nD) : sProp 𝕄 := atq c (pA d (kp d (lo i) c)) qa (fin X d (kp d (lo i) c))

def rcvPay (c : Dev nD) (d : Fin 2) : Fin 12 → sProp 𝕄
  | 0 => pay1 X d 0 c | 1 => pay1 X d 1 c | 2 => pay1 X d 2 c | 3 => pay1 X d 3 c
  | 4 => pay2 X d 0 c | 5 => pay2 X d 1 c
  | 6 => pay3 X d 0 c | 7 => pay3 X d 1 c
  | 8 => pay4 X d 0 c | 9 => pay4 X d 1 c | 10 => pay4 X d 2 c | 11 => pay4 X d 3 c
def sndPay (c : Dev nD) (d : Fin 2) : Fin 12 → sProp 𝕄
  | 6 => back3 X d 0 c | 7 => back3 X d 1 c
  | 8 => back4l X d 0 c | 9 => back4l X d 1 c
  | 10 => back4h X d 0 c | 11 => back4h X d 1 c
  | _ => iprop(emp)

theorem rcvPay_t1 (c : Dev nD) (d : Fin 2) (j : Fin 4) : rcvPay X c d (t1 j) = pay1 X d j c := by fin_cases j <;> rfl
theorem rcvPay_t2 (c : Dev nD) (d : Fin 2) (i : Fin 2) : rcvPay X c d (t2 i) = pay2 X d i c := by fin_cases i <;> rfl
theorem rcvPay_t3 (c : Dev nD) (d : Fin 2) (i : Fin 2) : rcvPay X c d (t3 i) = pay3 X d i c := by fin_cases i <;> rfl
theorem rcvPay_t4 (c : Dev nD) (d : Fin 2) (j : Fin 4) : rcvPay X c d (t4 j) = pay4 X d j c := by fin_cases j <;> rfl
theorem sndPay_t1 (c : Dev nD) (d : Fin 2) (j : Fin 4) : sndPay X c d (t1 j) = iprop(emp) := by fin_cases j <;> rfl
theorem sndPay_t2 (c : Dev nD) (d : Fin 2) (i : Fin 2) : sndPay X c d (t2 i) = iprop(emp) := by fin_cases i <;> rfl
theorem sndPay_t3 (c : Dev nD) (d : Fin 2) (i : Fin 2) : sndPay X c d (t3 i) = back3 X d i c := by fin_cases i <;> rfl
theorem sndPay_t4h (c : Dev nD) (d : Fin 2) (i : Fin 2) : sndPay X c d (t4 (hi i)) = back4h X d i c := by fin_cases i <;> rfl
theorem sndPay_t4l (c : Dev nD) (d : Fin 2) (i : Fin 2) : sndPay X c d (t4 (lo i)) = back4l X d i c := by fin_cases i <;> rfl

def payOf (c : Dev nD) (d : Fin 2) : Key → sProp 𝕄
  | .inl _ => barPay c d
  | .inr (0, e, i) => sndPay X c e i
  | .inr (_, e, i) => rcvPay X c e i

omit [FloatOps F] in
instance any_storable (c : Dev nD) {sp : Space} {s : Shape} {e : EltTy} (M : Memref sig .tc sp s e) :
    BI.Storable (upEmb : UEmb _ 𝕄) (any (F := F) c M) := by unfold any; infer_instance
instance pay1_storable (d : Fin 2) (i : Fin 4) (c : Dev nD) : BI.Storable (upEmb : UEmb _ 𝕄) (pay1 X d i c) := by unfold pay1; infer_instance
instance pay2_storable (d i : Fin 2) (c : Dev nD) : BI.Storable (upEmb : UEmb _ 𝕄) (pay2 X d i c) := by unfold pay2; infer_instance
instance pay3_storable (d i : Fin 2) (c : Dev nD) : BI.Storable (upEmb : UEmb _ 𝕄) (pay3 X d i c) := by unfold pay3; infer_instance
instance pay4_storable (d : Fin 2) (i : Fin 4) (c : Dev nD) : BI.Storable (upEmb : UEmb _ 𝕄) (pay4 X d i c) := by unfold pay4; infer_instance
instance back3_storable (d i : Fin 2) (c : Dev nD) : BI.Storable (upEmb : UEmb _ 𝕄) (back3 X d i c) := by unfold back3; infer_instance
instance back4h_storable (d i : Fin 2) (c : Dev nD) : BI.Storable (upEmb : UEmb _ 𝕄) (back4h X d i c) := by unfold back4h; infer_instance
instance back4l_storable (d i : Fin 2) (c : Dev nD) : BI.Storable (upEmb : UEmb _ 𝕄) (back4l X d i c) := by unfold back4l; infer_instance
instance rcvPay_storable (c : Dev nD) (d : Fin 2) (i : Fin 12) : BI.Storable (upEmb : UEmb _ 𝕄) (rcvPay X c d i) := by
  unfold rcvPay; split <;> infer_instance
instance sndPay_storable (c : Dev nD) (d : Fin 2) (i : Fin 12) : BI.Storable (upEmb : UEmb _ 𝕄) (sndPay X c d i) := by
  unfold sndPay; split <;> infer_instance
instance payOf_storable (c : Dev nD) (d : Fin 2) (k : Key) : BI.Storable (upEmb : UEmb _ 𝕄) (payOf X c d k) := by
  rcases k with _ | ⟨b, e, i⟩
  · unfold payOf barPay; infer_instance
  · fin_cases b
    · show BI.Storable upEmb (sndPay X c e i); infer_instance
    · show BI.Storable upEmb (rcvPay X c e i); infer_instance

/-! ## The schedule -/

/-- Who raises: both partners the barrier, one transfer its two semaphores. -/
def dutiesOf : Option Key → Finset (Fin 2)
  | some (.inl _) => Finset.univ
  | some (.inr _) => {0}
  | none => ∅
def amountOf' : Option Key → ℕ
  | some (.inl _) => 1
  | _ => N

def Rd : Rounds.Schedule (GSem nD τ sig) (Fin 2) 𝕄 where
  duties g r := if r = 0 ∧ g.1.2 = .tc then dutiesOf (key g.2) else ∅
  unitless _ := False
  amount g _ _ := amountOf' (key g.2)
  payload g _ d := match key g.2 with
    | some k => payOf X g.1.1 d k
    | none => iprop(emp)
  amount_pos g _ _ _ := by
    unfold amountOf'; split
    · exact Nat.one_pos
    · exact N_pos

instance Rd_storable (g : GSem nD τ sig) (r : ℕ) (d : Fin 2) : BI.Storable (upEmb : UEmb _ 𝕄) ((Rd X).payload g r d) := by
  show BI.Storable upEmb (match key g.2 with | some k => payOf X g.1.1 d k | none => iprop(emp))
  split <;> infer_instance

theorem duties_cell (c : Dev nD) (k : Key) : (Rd X).duties (cell c k) 0 = dutiesOf (some k) := by
  show (if (0 : ℕ) = 0 ∧ (cell c k).1.2 = .tc then dutiesOf (key (ksem k)) else ∅) = _
  rw [if_pos ⟨rfl, rfl⟩, key_ksem]
theorem duties_later (g : GSem nD τ sig) : ∀ r, 1 ≤ r → (Rd X).duties g r = ∅ := fun r hr => if_neg fun h => by omega
theorem amount_cell (c : Dev nD) (k : Key) (d : Fin 2) : (Rd X).amount (cell c k) 0 d = amountOf' (some k) := by
  show amountOf' (key (ksem k)) = _; rw [key_ksem]
theorem payload_cell (c : Dev nD) (k : Key) (d : Fin 2) : (Rd X).payload (cell c k) 0 d = payOf X c d k := by
  show (match key (ksem k) with | some k => payOf X c d k | none => iprop(emp)) = _; rw [key_ksem]

theorem payload_bar (c : Dev nD) (d : Fin 2) : (Rd X).payload (barC c) 0 d = barPay c d := payload_cell X c (.inl ()) d
theorem payload_snd (c : Dev nD) (e : Fin 2) (i : Fin 12) : (Rd X).payload (sndC c e i) 0 0 = sndPay X c e i := payload_cell X c (.inr (0, e, i)) 0
theorem payload_rcv (c : Dev nD) (e : Fin 2) (i : Fin 12) : (Rd X).payload (rcvC c e i) 0 0 = rcvPay X c e i := payload_cell X c (.inr (1, e, i)) 0
theorem duties_bar (c : Dev nD) : (Rd X).duties (barC c) 0 = Finset.univ := duties_cell X c (.inl ())
theorem duties_snd (c : Dev nD) (e : Fin 2) (i : Fin 12) : (Rd X).duties (sndC c e i) 0 = {0} := duties_cell X c (.inr (0, e, i))
theorem duties_rcv (c : Dev nD) (e : Fin 2) (i : Fin 12) : (Rd X).duties (rcvC c e i) 0 = {0} := duties_cell X c (.inr (1, e, i))
theorem amount_bar (c : Dev nD) (d : Fin 2) : (Rd X).amount (barC c) 0 d = 1 := amount_cell X c (.inl ()) d
theorem amount_snd (c : Dev nD) (e : Fin 2) (i : Fin 12) : (Rd X).amount (sndC c e i) 0 0 = N := amount_cell X c (.inr (0, e, i)) 0
theorem amount_rcv (c : Dev nD) (e : Fin 2) (i : Fin 12) : (Rd X).amount (rcvC c e i) 0 0 = N := amount_cell X c (.inr (1, e, i)) 0

theorem expect_bar (c : Dev nD) : (Rd X).expect (barC c) 0 = 2 := by
  unfold Schedule.expect Schedule.amountOf
  rw [duties_bar, Finset.sum_congr rfl fun d _ => amount_bar X c d]; rfl
theorem expect_snd (c : Dev nD) (e : Fin 2) (i : Fin 12) : (Rd X).expect (sndC c e i) 0 = N := by
  unfold Schedule.expect Schedule.amountOf; rw [duties_snd, Finset.sum_singleton, amount_snd]
theorem expect_rcv (c : Dev nD) (e : Fin 2) (i : Fin 12) : (Rd X).expect (rcvC c e i) 0 = N := by
  unfold Schedule.expect Schedule.amountOf; rw [duties_rcv, Finset.sum_singleton, amount_rcv]

theorem rest_bar (c : Dev nD) : bigSep ((Rd X).duties (barC c) 0 \ ∅) (fun d => (Rd X).payload (barC c) 0 d) = iprop(barPay c 0 ∗ barPay c 1) := by
  rw [Finset.sdiff_empty, duties_bar, bigSep_univ_two, payload_bar, payload_bar]
theorem rest_snd (c : Dev nD) (e : Fin 2) (i : Fin 12) : bigSep ((Rd X).duties (sndC c e i) 0 \ ∅) (fun d => (Rd X).payload (sndC c e i) 0 d) = sndPay X c e i := by
  rw [Finset.sdiff_empty, duties_snd, bigSep_singleton, payload_snd]
theorem rest_rcv (c : Dev nD) (e : Fin 2) (i : Fin 12) : bigSep ((Rd X).duties (rcvC c e i) 0 \ ∅) (fun d => (Rd X).payload (rcvC c e i) 0 d) = rcvPay X c e i := by
  rw [Finset.sdiff_empty, duties_rcv, bigSep_singleton, payload_rcv]

/-! ## What a device owes, and the levels -/

/-- The device transfer `i` of half `d` goes to, by exchange. -/
def dest (d : Fin 2) (i : Fin 12) (c : Dev nD) : Dev nD := if i.val < 4 ∨ 8 ≤ i.val then pal d c else mate d c
theorem tdev_eq : ∀ d i c, tdev d i c = dest d i c := by decide +kernel
theorem dest_dest : ∀ d i c, dest d i (dest d i c) = c := by decide +kernel

/-- The credit owed for the transfers still to be sent. -/
def owed (c : Dev nD) : List (Fin 2 × Fin 12) → CellTallies nD τ sig Unit
  | [] => 0
  | s :: l => owed c l + tallyAt (rcvC (dest s.1 s.2 c) s.1 s.2) () N

/-- The transfers of the four exchanges, in the order they are sent. -/
abbrev s1 (x : Fin 4 × Fin 2) : List (Fin 2 × Fin 12) := [(x.2, t1 x.1)]
abbrev s2 (x : Fin 2 × Fin 2) : List (Fin 2 × Fin 12) := [(x.2, t2 x.1)]
abbrev s3 (x : Fin 2 × Fin 2) : List (Fin 2 × Fin 12) := [(x.2, t3 x.1), (x.2, t4 (hi x.1))]
abbrev s4 (x : Fin 2 × Fin 2) : List (Fin 2 × Fin 12) := [(x.2, t4 (lo x.1))]
abbrev after4 : List (Fin 2 × Fin 12) := []
abbrev after3 : List (Fin 2 × Fin 12) := L2.flatMap s4 ++ after4
abbrev after2 : List (Fin 2 × Fin 12) := L2.flatMap s3 ++ after3
abbrev after1 : List (Fin 2 × Fin 12) := L2.flatMap s2 ++ after2
abbrev sends : List (Fin 2 × Fin 12) := L4.flatMap s1 ++ after1
theorem sends_nodup : sends.Nodup := by decide
theorem sends_all : ∀ s, s ∈ sends := by decide

/-- At launch: all transfers, and a unit to each partner's barrier. -/
def O₁ (c : Dev nD) : CellTallies nD τ sig Unit := owed c sends + tallyAt (barC (pal 1 c)) () 1
def O₀ (c : Dev nD) : CellTallies nD τ sig Unit := O₁ c + tallyAt (barC (pal 0 c)) () 1

/-- The level of a transfer's receive semaphore: its exchange. -/
def lev (i : Fin 12) : ℕ := if i.val < 4 then 2 else if i.val < 6 then 3 else if i.val < 8 then 4 else 5
theorem lev_pos : ∀ i, 0 < lev i := by decide
def levOf : Option Key → ℕ
  | some (.inl _) => 1
  | some (.inr (1, _, i)) => lev i
  | _ => 0
def L (g : GSem nD τ sig) : Finset Unit := if g.1.2 = .tc then {()} else ∅
def lv (g : GSem nD τ sig) (_ : Unit) : ℕ := levOf (key g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) (u : Unit) : lv (cell c k) u = levOf (some k) := by
  show levOf (key (ksem k)) = _; rw [key_ksem]
theorem lv_rcv (c : Dev nD) (e : Fin 2) (i : Fin 12) (u : Unit) : lv (rcvC c e i) u = lev i := lv_cell c (.inr (1, e, i)) u
theorem lv_bar (c : Dev nD) (u : Unit) : lv (barC c) u = 1 := rfl

theorem owed_pos {c : Dev nD} {l : List (Fin 2 × Fin 12)} {g : GSem nD τ sig} {u : Unit} (h : 0 < owed c l g u) :
    ∃ s ∈ l, g = rcvC (dest s.1 s.2 c) s.1 s.2 := by
  induction l with
  | nil => exact absurd h (Nat.lt_irrefl 0)
  | cons s l ih =>
    unfold owed at h
    rw [Pi.add_apply, Finsupp.add_apply, tallyAt_apply] at h
    by_cases hg : g = rcvC (dest s.1 s.2 c) s.1 s.2
    · exact ⟨s, List.mem_cons_self, hg⟩
    · rw [if_neg fun h' => hg h'.1, Nat.add_zero] at h
      obtain ⟨s', hs, e⟩ := ih h
      exact ⟨s', List.mem_cons_of_mem _ hs, e⟩
theorem O₀_pos {c : Dev nD} {g : GSem nD τ sig} {u : Unit} (h : 0 < O₀ c g u) :
    (∃ s ∈ sends, g = rcvC (dest s.1 s.2 c) s.1 s.2) ∨ ∃ d, g = barC (pal d c) := by
  by_cases h0 : g = barC (pal 0 c)
  · exact .inr ⟨0, h0⟩
  by_cases h1 : g = barC (pal 1 c)
  · exact .inr ⟨1, h1⟩
  have e0 : (tallyAt (barC (pal 0 c)) () 1 : CellTallies nD τ sig Unit) g u = 0 := by rw [tallyAt_apply]; exact if_neg fun h' => h0 h'.1
  have e1 : (tallyAt (barC (pal 1 c)) () 1 : CellTallies nD τ sig Unit) g u = 0 := by rw [tallyAt_apply]; exact if_neg fun h' => h1 h'.1
  have e : O₀ c g u = owed c sends g u := by
    unfold O₀ O₁
    rw [Pi.add_apply, Finsupp.add_apply, Pi.add_apply, Finsupp.add_apply, e0, e1]; rfl
  rw [e] at h
  exact .inl (owed_pos (l := sends) h)

omit [FloatOps F] in
/-- A device may wait on a semaphore of a level below every transfer it has still to send. -/
theorem mayWait (c : Dev nD) (k : Key) (l : List (Fin 2 × Fin 12)) (h : ∀ s ∈ l, levOf (some k) < lev s.2) :
    (levAts L lv : sProp 𝕄) ⊢ MayWait (c : Thread nD τ) (ksem k) () (owed c l) :=
  MayOwe.of_cut (L := L) (lev := lv) (levOf (some k)) (fun p hp => by rw [Finset.mem_singleton.mp hp, L_tc]; exact Finset.mem_singleton_self _)
    (fun g u hg => by obtain ⟨s, -, rfl⟩ := owed_pos hg; exact Finset.mem_singleton_self _)
    (fun p hp => by rw [Finset.mem_singleton.mp hp]; exact le_of_eq (lv_cell c k ()))
    (fun g u hg => by obtain ⟨s, hs, rfl⟩ := owed_pos hg; rw [lv_rcv]; exact h s hs)

omit [FloatOps F] in
/-- The staging copies' semaphores lie below all others. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · have h0 : levOf (key (.dma q)) = 0 := by rw [show key (.dma q) = none from dif_pos hq]; rfl
    refine MayOwe.of_cut (L := L) (lev := lv) 0 (fun p hp => by rw [Finset.mem_singleton.mp hp, L_tc]; exact Finset.mem_singleton_self _)
      (fun g u hg => by rcases O₀_pos hg with ⟨s, -, rfl⟩ | ⟨d, rfl⟩ <;> exact Finset.mem_singleton_self _)
      (fun p hp => by rw [Finset.mem_singleton.mp hp]; exact le_of_eq h0)
      (fun g u hg => by
        rcases O₀_pos hg with ⟨s, -, rfl⟩ | ⟨d, rfl⟩
        · rw [lv_rcv]; exact lev_pos s.2
        · exact Nat.one_pos)
  · rw [MayWait_zero]; iintro -; iempintro

end Cert.AllReduce

end
-- ==== Proof.Rules.lean ====
module

public import proofs.«01_k».proof.Proof.Sched
public import Idealize.ShloMosaic.Lib.MemrefSat
public import Idealize.ShloMosaic.Lib.ViewIndex

/-! # The groups of operations, one rule each

For each group the body is made of, what it needs and what it leaves, in terms of the pieces owned. -/

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Inputs F)

/-- The weakest precondition of a program of device `c`. -/
abbrev WP (c : Dev nD) (p : P (F := F)) (Q : PUnit.{1} → sProp 𝕄) : sProp 𝕄 :=
  wp frame (wpE (defs₀ (F := F)) 𝒱₀ (c : Thread nD τ) none) Set.univ p Q

/-- The staged input of device `c`. -/
def xs (c : Dev nD) : sProp 𝕄 := ((c : Thread nD τ).loc cc0_stg0_0) ↦{fullShare} X c
/-- What device `c` owes, having waited on whatever it has. -/
def oweS (c : Dev nD) (O : CellTallies nD τ sig Unit) : sProp 𝕄 := iprop(∃ W, owes (c : Thread nD τ) O W)
/-- The right to raise both semaphores of transfer `i` of half `d`. -/
def tick (c : Dev nD) (d : Fin 2) (i : Fin 12) : sProp 𝕄 :=
  iprop(dutyTok EK (sndC c d i) 0 0 ∗ dutyTok EK (rcvC (dest d i c) d i) 0 0)
/-- The right to await the landing of transfer `i` of half `d`. -/
def stub (c : Dev nD) (d : Fin 2) (i : Fin 12) : sProp 𝕄 := iprop(cred (tallyAt (rcvC c d i) () N) ∗ atPos EK (rcvC c d i) 0 ∅ 0)
/-- The right to await the end of the own transfer, once sent; -/
def sent (c : Dev nD) (d : Fin 2) (i : Fin 12) : sProp 𝕄 := cred (tallyAt (sndC c d i) () N)
/-- a semaphore whose one round is over. -/
def done (c : Dev nD) (k : Key) : sProp 𝕄 := atPos EK (cell c k) 1 ∅ 0

/-- Every semaphore's invariant, and that round 0 of each is reached. -/
def recs (K : Dev nD × Key → ℕ) : sProp 𝕄 :=
  iprop((bigSep Finset.univ fun ck : Dev nD × Key => cellInv EK (Rd X) (K ck) (cell ck.1 ck.2))
    ∗ bigSep Finset.univ fun ck : Dev nD × Key => reached EK (cell ck.1 ck.2) 0)
instance recs_persistent (K : Dev nD × Key → ℕ) : BI.Persistent (recs X K) := by unfold recs; infer_instance

variable (K : Dev nD × Key → ℕ)

theorem inv_of (c : Dev nD) (k : Key) : recs X K ⊢ cellInv EK (Rd X) (K (c, k)) (cell c k) := by
  unfold recs; exact sep_elim_left.trans (bigSep_elim (Finset.mem_univ (c, k)))
theorem reached_of (c : Dev nD) (k : Key) : recs X K ⊢ reached EK (cell c k) 0 := by
  unfold recs; exact sep_elim_right.trans (bigSep_elim (Finset.mem_univ (c, k)))

/-! ## Loads and stores of a piece -/

section Access
variable (c : Dev nD) {s : Shape} {sp : CoreSpace} (M : Memref sig .tc sp s .bf16) (r : Rect s) (hr : ∀ a, r.stride a = 1)

/-- A load of a piece owned at some share reads its contents. -/
theorem load_piece {Q : PUnit.{1} → sProp 𝕄} {q : PosShare TreeShare} {Y : r.shape.Idx → Elt F .bf16} {hl : M.view.LoadsAt r.toLoadRect} {k : (r.shape.Idx → Elt F .bf16) → P (F := F)} :
    atq c (M.slice r hr) q Y ⊢ iprop((atq c (M.slice r hr) q Y -∗ WP c (k Y) Q) -∗ WP c (.op (.load M r.toLoadRect hl) k) Q) := by
  unfold atq owns
  iintro ⟨%f, %hf, H⟩ Hk
  iapply (wp_load_rect 𝒱₀ (c : Thread nD τ) none Set.univ (m := M) (r := r) (hl := hl) (Finset.Subset.refl _)) $$ H
  iintro H
  rw [show (M.access r).read (Elt F) f = Y from hf]
  iapply Hk
  iexists f
  isplitr; · (ipureintro; exact hf)
  iexact H

/-- A store to a piece leaves what is stored. -/
theorem store_piece {Q : PUnit.{1} → sProp 𝕄} {w : r.shape.Idx → Elt F .bf16} {hx : (M.access r).Stores Finset.univ} {hm : (Finset.univ : Finset r.shape.Idx) = Finset.univ ∨ ∀ a, r.stride a = 1}
    {k : PUnit → P (F := F)} :
    any c (M.slice r hr) ⊢ iprop((at1 c (M.slice r hr) w -∗ WP c (k ⟨⟩) Q) -∗ WP c (.op (.store M r w Finset.univ hx hm) k) Q) := by
  unfold any at1 owns
  iintro ⟨%Y, %f, %hf, H⟩ Hk
  iapply (wp_store 𝒱₀ (c : Thread nD τ) none Set.univ (m := M) (r := r) (Mk := Finset.univ) (hx := hx) (S := (M.slice r hr).view.set)
      (by rw [View.setOn_univ])) $$ H
  iintro H
  iapply Hk
  iexists _
  isplitr
  swap
  · iexact H
  · ipureintro
    exact View.read_write_univ (v := M.access r) f w

end Access

theorem any_intro (c : Dev nD) {sp : Space} {s : Shape} {e : EltTy} (M : Memref sig .tc sp s e) (Y : s.Idx → Elt F e) :
    at1 c M Y ⊢ any c M := by unfold any; iintro H; iexists Y; iexact H

variable (c : Dev nD)

theorem gFill_rule {Q : PUnit.{1} → sProp 𝕄} {k : P (F := F)} (d : Fin 2) (ρ : Fin 8) {ox : Fin 2 → Nat} (ex : ox = xo d ρ) {oa : Fin 3 → Nat} (ea : oa = ao d ρ)
    (hx : ∀ a, ox a + S256x512.size a ≤ S2048x1024.size a) (ha : ∀ a, oa a + S1x256x512.size a ≤ S2x2048x512.size a)
    (hp : (Rect.unit (s := S2x2048x512) oa S1x256x512.size ha).PackedRows (EltTy.packing .bf16)) :
    iprop(xs X c ∗ any c (pA d ρ)) ⊢ iprop(((xs X c ∗ at1 c (pA d ρ) (inP X d ρ c)) -∗ WP c k Q) -∗ WP c (gFill hx ha hp k) Q) := by
  subst ex; subst ea
  unfold gFill any
  iintro ⟨Hx, %Y, Ha⟩ Hk
  unfold xs
  iapply (wp_load_rect 𝒱₀ (c : Thread nD τ) none Set.univ (m := xM) (r := xR (d, ρ)) (Finset.subset_univ _)) $$ Hx
  iintro Hx
  iapply (load_piece c accM (aR (d, ρ)) (fun _ => rfl)) $$ Ha
  iintro Ha
  ihave Ha := (any_intro c (pA d ρ) Y) $$ Ha
  iapply (store_piece c accM (aR (d, ρ)) (fun _ => rfl)) $$ Ha
  iintro Ha
  iapply Hk
  isplitl [Hx]; · iexact Hx
  iexact Ha

theorem gAdd_rule {Q : PUnit.{1} → sProp 𝕄} {k : P (F := F)} (d : Fin 2) (ρ : Fin 8) {sz : Fin 3 → Nat} (M : Memref sig .tc .vmem ⟨3, sz⟩ .bf16) {oa : Fin 3 → Nat} (ea : oa = ao d ρ)
    (ha : ∀ a, oa a + S1x256x512.size a ≤ S2x2048x512.size a)
    (hp : (Rect.unit (s := S2x2048x512) oa S1x256x512.size ha).PackedRows (EltTy.packing .bf16))
    {ob : Fin 3 → Nat} (hb : ∀ a, ob a + S1x256x512.size a ≤ sz a) (Y Z : Piece F) :
    iprop(at1 c (pA d ρ) Y ∗ at1 c (M.slice (Rect.unit (s := ⟨3, sz⟩) ob S1x256x512.size hb) (fun _ => rfl)) Z)
      ⊢ iprop(((at1 c (pA d ρ) (k0_pay19 Y Z) ∗ at1 c (M.slice (Rect.unit (s := ⟨3, sz⟩) ob S1x256x512.size hb) (fun _ => rfl)) Z) -∗ WP c k Q)
        -∗ WP c (gAdd M ha hp hb k) Q) := by
  subst ea
  unfold gAdd
  iintro ⟨Ha, Hb⟩ Hk
  iapply (load_piece c accM (aR (d, ρ)) (fun _ => rfl)) $$ Ha
  iintro Ha
  iapply (load_piece c M (Rect.unit (s := ⟨3, sz⟩) ob S1x256x512.size hb) (fun _ => rfl)) $$ Hb
  iintro Hb
  iapply (load_piece c accM (aR (d, ρ)) (fun _ => rfl)) $$ Ha
  iintro Ha
  ihave Ha := (any_intro c (pA d ρ) Y) $$ Ha
  iapply (store_piece c accM (aR (d, ρ)) (fun _ => rfl)) $$ Ha
  iintro Ha
  iapply Hk
  isplitl [Ha]; · iexact Ha
  iexact Hb

theorem gOut_rule {Q : PUnit.{1} → sProp 𝕄} {k : P (F := F)} (d : Fin 2) (ρ : Fin 8) {ox : Fin 2 → Nat} (ex : ox = xo d ρ) {oa : Fin 3 → Nat} (ea : oa = ao d ρ)
    (hx : ∀ a, ox a + S256x512.size a ≤ S2048x1024.size a)
    (hq : (Rect.unit (s := S2048x1024) ox S256x512.size hx).PackedRows (EltTy.packing .bf16))
    (ha : ∀ a, oa a + S1x256x512.size a ≤ S2x2048x512.size a) (q : PosShare TreeShare) (Y : Piece F) :
    iprop(atq c (pA d ρ) q Y ∗ any c (pO d ρ))
      ⊢ iprop(((atq c (pA d ρ) q Y ∗ at1 c (pO d ρ) (k0_pay32 Y)) -∗ WP c k Q) -∗ WP c (gOut hx hq ha k) Q) := by
  subst ex; subst ea
  unfold gOut any
  iintro ⟨Ha, %Z, Ho⟩ Hk
  iapply (load_piece c accM (aR (d, ρ)) (fun _ => rfl)) $$ Ha
  iintro Ha
  iapply (load_piece c outM (xR (d, ρ)) (fun _ => rfl)) $$ Ho
  iintro Ho
  ihave Ho := (any_intro c (pO d ρ) Z) $$ Ho
  iapply (store_piece c outM (xR (d, ρ)) (fun _ => rfl)) $$ Ho
  iintro Ho
  iapply Hk
  isplitl [Ha]; · iexact Ha
  iexact Ho

/-! ## Transfers -/

theorem flat_set (A : PieceM) : (flat A).view.set = A.view.set := View.set_reshape _ _
/-- A piece written from another reads what that one read. -/
theorem flat_read (A B : PieceM) (fd : B.view.ty.Contents (Elt F)) (fs : A.view.ty.Contents (Elt F)) :
    B.view.read (Elt F) ((flat B).view.write (Elt F) fd ((flat A).view.read (Elt F) fs) Finset.univ) = A.view.read (Elt F) fs := by
  funext y
  have hn : S256x512.numel = S1x256x512.numel := squeezes_S1x256x512_S256x512.numel_eq
  obtain ⟨x, rfl⟩ := (Shape.reshapeEquiv hn).surjective y
  exact View.read_write_reshape B.view hn fd _ x

/-- The elements of a piece, as a transfer names them, are the piece; -/
theorem flat_src (A : PieceM) (q : PosShare TreeShare) (fs : A.view.ty.Contents (Elt F)) :
    ((flat A).view.loc (c : Thread nD τ) ↦[(flat A).view.set]{q} fs : sProp 𝕄) ⊢ atq c A q (A.view.read (Elt F) fs) := by
  rw [flat_set]; exact owns_intro (c : Thread nD τ) A q fs
/-- after the transfer wrote them, the piece at what was read. -/
theorem flat_dst (A B : PieceM) (fd : B.view.ty.Contents (Elt F)) (fs : A.view.ty.Contents (Elt F)) :
    ((flat B).view.loc (c : Thread nD τ) ↦[(flat B).view.set]{fullShare}
        ((flat B).view.write (Elt F) fd ((flat A).view.read (Elt F) fs) Finset.univ) : sProp 𝕄) ⊢ at1 c B (A.view.read (Elt F) fs) := by
  rw [← flat_read A B fd fs, flat_set]; exact owns_intro (c : Thread nD τ) B fullShare _

/-- A finished piece sent: the share lent comes back when the send ends, the landing hands over the piece. -/
theorem gSend_rule {Q : PUnit.{1} → sProp 𝕄} {k : P (F := F)} (A B : PieceM) (hA : (flat A).view.WordExact) (hB : (flat B).view.WordExact) (d : Fin 2) (i : Fin 12) {c' : Dev nD} (hc : c' = dest d i c)
    (q : PosShare TreeShare) (Y : Piece F) (l : List (Fin 2 × Fin 12))
    (h1 : atq c A q Y ⊢ sndPay X c d i) (h2 : at1 (dest d i c) B Y ⊢ rcvPay X (dest d i c) d i) :
    iprop(recs X K ∗ atq c A q Y ∗ any (dest d i c) B ∗ tick c d i ∗ oweS c (owed c ((d, i) :: l)))
      ⊢ iprop(((sent c d i ∗ oweS c (owed c l)) -∗ WP c k Q) -∗ WP c (gSend A B hA hB c' (sendS d i) (recvS d i) k) Q) := by
  subst hc
  unfold gSend tick sent oweS any
  iintro ⟨#HR, HA, ⟨%Z, HB⟩, ⟨Ht, Hu⟩, ⟨%W, HO⟩⟩ Hk
  unfold atq owns
  icases HA with ⟨%fs, %hs, HA⟩
  subst hs
  icases HB with ⟨%fd, -, HB⟩
  iapply (Rounds.wp_send_pointsTo 𝒱₀ EK (Rd X) (c : Thread nD τ) none (c' := (dest d i c : Thread nD τ)) (src := flat A) (dst := flat B)
      (sS := .dma (sendS d i)) (sem := .dma (recvS d i)) (q := q) (fs := fs) (fd := fd)
      (κ₁ := K (c, .inr (0, d, i))) (κ₂ := K (dest d i c, .inr (1, d, i)))
      (r₁ := 0) (r₂ := 0) (d₁ := 0) (d₂ := 0) (by rw [duties_snd]; exact Finset.mem_singleton_self _) (by rw [duties_rcv]; exact Finset.mem_singleton_self _)
      () () N rfl (amount_snd X c d i) (amount_rcv X (dest d i c) d i) (owed c l) rfl (W := W)
      (by rw [payload_snd]; exact (flat_src c A q fs).trans h1)
      (by rw [payload_rcv]; exact (flat_dst (dest d i c) A B fd fs).trans h2)) $$ [HA HB HO Ht Hu]
  · isplitr; · iapply (inv_of X K c (.inr (0, d, i))); iexact HR
    isplitr; · iapply (inv_of X K (dest d i c) (.inr (1, d, i))); iexact HR
    isplitl [HA]; · rw [flat_set]; iexact HA
    isplitl [HB]; · rw [flat_set]; iexact HB
    isplitl [HO]; · iexact HO
    isplitl [Ht]; · iexact Ht
    isplitr; · iapply (reached_of X K c (.inr (0, d, i))); iexact HR
    isplitl [Hu]; · iexact Hu
    iapply (reached_of X K (dest d i c) (.inr (1, d, i))); iexact HR
  iintro ⟨Hc, HO⟩
  iapply Hk
  isplitl [Hc]; · iexact Hc
  iexists W; iexact HO

/-- A piece of the first exchanges sent: the landing hands over the landed piece and the piece it was read from. -/
theorem gSend_give_rule {Q : PUnit.{1} → sProp 𝕄} {k : P (F := F)} (A B : PieceM) (hA : (flat A).view.WordExact) (hB : (flat B).view.WordExact) (d : Fin 2) (i : Fin 12) {c' : Dev nD} (hc : c' = dest d i c)
    (Y : Piece F) (l : List (Fin 2 × Fin 12))
    (h1 : (emp : sProp 𝕄) ⊢ sndPay X c d i) (h2 : iprop(at1 (dest d i c) B Y ∗ at1 c A Y) ⊢ rcvPay X (dest d i c) d i) :
    iprop(recs X K ∗ at1 c A Y ∗ any (dest d i c) B ∗ tick c d i ∗ oweS c (owed c ((d, i) :: l)))
      ⊢ iprop(((sent c d i ∗ oweS c (owed c l)) -∗ WP c k Q) -∗ WP c (gSend A B hA hB c' (sendS d i) (recvS d i) k) Q) := by
  subst hc
  unfold gSend tick sent oweS any
  iintro ⟨#HR, HA, ⟨%Z, HB⟩, ⟨Ht, Hu⟩, ⟨%W, HO⟩⟩ Hk
  unfold at1 owns
  icases HA with ⟨%fs, %hs, HA⟩
  subst hs
  icases HB with ⟨%fd, -, HB⟩
  iapply (Rounds.wp_send_landing_pointsTo 𝒱₀ EK (Rd X) (c : Thread nD τ) none (c' := (dest d i c : Thread nD τ)) (src := flat A) (dst := flat B)
      (sS := .dma (sendS d i)) (sem := .dma (recvS d i)) (q := fullShare) (fs := fs) (fd := fd)
      (κ₁ := K (c, .inr (0, d, i))) (κ₂ := K (dest d i c, .inr (1, d, i)))
      (r₁ := 0) (r₂ := 0) (d₁ := 0) (d₂ := 0) (by rw [duties_snd]; exact Finset.mem_singleton_self _) (by rw [duties_rcv]; exact Finset.mem_singleton_self _)
      () () N rfl (amount_snd X c d i) (amount_rcv X (dest d i c) d i) (owed c l) rfl (W := W)
      (by rw [payload_snd]; exact h1)
      (by rw [payload_rcv]; exact (BI.sep_mono (flat_dst (dest d i c) A B fd fs) (flat_src c A fullShare fs)).trans h2)) $$ [HA HB HO Ht Hu]
  · isplitr; · iapply (inv_of X K c (.inr (0, d, i))); iexact HR
    isplitr; · iapply (inv_of X K (dest d i c) (.inr (1, d, i))); iexact HR
    isplitl [HA]; · rw [flat_set]; iexact HA
    isplitl [HB]; · rw [flat_set]; iexact HB
    isplitl [HO]; · iexact HO
    isplitl [Ht]; · iexact Ht
    isplitr; · iapply (reached_of X K c (.inr (0, d, i))); iexact HR
    isplitl [Hu]; · iexact Hu
    iapply (reached_of X K (dest d i c) (.inr (1, d, i))); iexact HR
  iintro ⟨Hc, HO⟩
  iapply Hk
  isplitl [Hc]; · iexact Hc
  iexists W; iexact HO

/-- A landing awaited, while only transfers of later exchanges are owed. -/
theorem gWait_rcv_rule {Q : PUnit.{1} → sProp 𝕄} {k : P (F := F)} (A B : PieceM) (hA : (flat A).view.WordExact) (hB : (flat B).view.WordExact) (d : Fin 2) (i : Fin 12) (l : List (Fin 2 × Fin 12))
    (hl : ∀ s ∈ l, lev i < lev s.2) :
    iprop(recs X K ∗ levAts L lv ∗ stub c d i ∗ oweS c (owed c l))
      ⊢ iprop(((rcvPay X c d i ∗ done c (.inr (1, d, i)) ∗ oweS c (owed c l)) -∗ WP c k Q) -∗ WP c (gWait (recvS d i) A B hA hB k) Q) := by
  unfold gWait stub oweS done
  iintro ⟨#HR, #HL, ⟨Hc, Ha⟩, ⟨%W, HO⟩⟩ Hk
  iapply (Rounds.wp_wait_rest_token 𝒱₀ EK (Rd X) (c : Thread nD τ) none (κ := K (c, .inr (1, d, i)))
      (wpE_waitDma2_eq 𝒱₀ (c : Thread nD τ) none Set.univ) (Set.mem_univ _) () (O := owed c l) (W := W) (R := 0) (m := 0) (T := ∅)
      (by rw [Nat.zero_add, expect_rcv])) $$ [Hc HO Ha]
  · isplitr; · iapply (inv_of X K c (.inr (1, d, i))); iexact HR
    isplitl [Hc]; · iexact Hc
    isplitl [HO]; · iexact HO
    isplitr; · iapply (mayWait c (.inr (1, d, i)) l hl); iexact HL
    iexact Ha
  iintro ⟨HO, Ha, -, Hp⟩
  ihave Hp := (Entails.of_eq (rest_rcv X c d i)) $$ Hp
  iapply Hk
  isplitl [Hp]; · iexact Hp
  isplitl [Ha]; · iexact Ha
  iexists _; iexact HO

/-- The end of an own transfer awaited, when nothing is owed. -/
theorem gWait_snd_rule {Q : PUnit.{1} → sProp 𝕄} {k : P (F := F)} (A B : PieceM) (hA : (flat A).view.WordExact) (hB : (flat B).view.WordExact) (d : Fin 2) (i : Fin 12) :
    iprop(recs X K ∗ sent c d i ∗ atPos EK (sndC c d i) 0 ∅ 0 ∗ oweS c 0)
      ⊢ iprop(((sndPay X c d i ∗ done c (.inr (0, d, i)) ∗ oweS c 0) -∗ WP c k Q) -∗ WP c (gWait (sendS d i) A B hA hB k) Q) := by
  unfold gWait sent oweS done
  iintro ⟨#HR, Hc, Ha, ⟨%W, HO⟩⟩ Hk
  iapply (Rounds.wp_wait_rest_token 𝒱₀ EK (Rd X) (c : Thread nD τ) none (κ := K (c, .inr (0, d, i)))
      (wpE_waitDma2_eq 𝒱₀ (c : Thread nD τ) none Set.univ) (Set.mem_univ _) () (O := 0) (W := W) (R := 0) (m := 0) (T := ∅)
      (by rw [Nat.zero_add, expect_snd])) $$ [Hc HO Ha]
  · isplitr; · iapply (inv_of X K c (.inr (0, d, i))); iexact HR
    isplitl [Hc]; · iexact Hc
    isplitl [HO]; · iexact HO
    isplitr; · rw [MayWait_zero]; iempintro
    iexact Ha
  iintro ⟨HO, Ha, -, Hp⟩
  ihave Hp := (Entails.of_eq (rest_snd X c d i)) $$ Hp
  iapply Hk
  isplitl [Hp]; · iexact Hp
  isplitl [Ha]; · iexact Ha
  iexists _; iexact HO

/-! ## The barrier -/

/-- A partner signalled: it is handed the own landing buffers. -/
theorem gSignal_rule {Q : PUnit.{1} → sProp 𝕄} {k : P (F := F)} (d : Fin 2) {c' : Dev nD} (hc : c' = pal d c) (O : CellTallies nD τ sig Unit) :
    iprop(recs X K ∗ barPay (pal d c) d ∗ dutyTok EK (barC (pal d c)) 0 d ∗ oweS c (O + tallyAt (barC (pal d c)) () 1))
      ⊢ iprop((oweS c O -∗ WP c k Q) -∗ WP c (gSignal c' k) Q) := by
  subst hc
  unfold gSignal oweS
  iintro ⟨#HR, Hp, Ht, ⟨%W, HO⟩⟩ Hk
  iapply (Rounds.wp_signal 𝒱₀ EK (Rd X) (c : Thread nD τ) none (dst := (pal d c : Thread nD τ)) (κ := K (pal d c, .inl ()))
      (d := d) (by rw [duties_bar]; exact Finset.mem_univ _) (amount_bar X (pal d c) d) () O rfl (W := W)) $$ [Hp Ht HO]
  · isplitr; · iapply (inv_of X K (pal d c) (.inl ())); iexact HR
    isplitl [HO]; · iexact HO
    isplitl [Ht]; · iexact Ht
    isplitl [Hp]; · rw [payload_bar]; iexact Hp
    iapply (reached_of X K (pal d c) (.inl ())); iexact HR
  iintro HO
  iapply Hk
  iexists W; iexact HO

/-- Both partners awaited: their landing buffers are the own transfers' to fill. -/
theorem gBarrier_rule {Q : PUnit.{1} → sProp 𝕄} {k : P (F := F)} (l : List (Fin 2 × Fin 12)) (hl : ∀ s ∈ l, 1 < lev s.2) :
    iprop(recs X K ∗ levAts L lv ∗ cred (tallyAt (barC c) () 2) ∗ atPos EK (barC c) 0 ∅ 0 ∗ oweS c (owed c l))
      ⊢ iprop(((barPay c 0 ∗ barPay c 1 ∗ done c (.inl ()) ∗ oweS c (owed c l)) -∗ WP c k Q) -∗ WP c (gBarrier k) Q) := by
  unfold gBarrier oweS done
  iintro ⟨#HR, #HL, Hc, Ha, ⟨%W, HO⟩⟩ Hk
  iapply (Rounds.wp_wait_rest_token 𝒱₀ EK (Rd X) (c : Thread nD τ) none (κ := K (c, .inl ()))
      (wpE_semWait_eq 𝒱₀ (c : Thread nD τ) none Set.univ) (Set.mem_univ _) () (O := owed c l) (W := W) (R := 0) (m := 0) (T := ∅)
      (by rw [expect_bar])) $$ [Hc HO Ha]
  · isplitr; · iapply (inv_of X K c (.inl ())); iexact HR
    isplitl [Hc]; · iexact Hc
    isplitl [HO]; · iexact HO
    isplitr; · iapply (mayWait c (.inl ()) l hl); iexact HL
    iexact Ha
  iintro ⟨HO, Ha, -, Hp⟩
  ihave Hp := (Entails.of_eq (rest_bar X c)) $$ Hp
  icases Hp with ⟨Hp, Hp'⟩
  iapply Hk
  isplitl [Hp]; · iexact Hp
  isplitl [Hp']; · iexact Hp'
  isplitl [Ha]; · iexact Ha
  iexists _; iexact HO

end Cert.AllReduce

end
-- ==== Proof.Phases.lean ====
module

public import proofs.«01_k».proof.Proof.Rules
public import Idealize.ShloMosaic.Lib.Pipeline.BigSepL

/-! # The phases, one rule each

A phase runs one group of operations over all its pieces. Its rule takes what the group needs for every piece to what the
group leaves for every piece; the rule for one piece is lifted by an induction over the pieces visited. -/

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Pieces visited one by one -/

/-- If each visit of `g` takes its `A` to its `B` and moves `I` on by one, the visits of a list take all `A` to all `B`. -/
theorem fold_list {α : Type} (c : Dev nD) (g : α → P (F := F) → P (F := F)) (R : sProp 𝕄) [BI.Persistent R] (I : List α → sProp 𝕄) (A B : α → sProp 𝕄)
    (hs : ∀ (x : α) (l : List α) (k : P (F := F)) (Q : PUnit.{1} → sProp 𝕄),
      iprop(R ∗ A x ∗ I (x :: l)) ⊢ iprop(((B x ∗ I l) -∗ WP c k Q) -∗ WP c (g x k) Q))
    (l : List α) (k : P (F := F)) (Q : PUnit.{1} → sProp 𝕄) :
    iprop(R ∗ bigSepL l A ∗ I l) ⊢ iprop(((bigSepL l B ∗ I []) -∗ WP c k Q) -∗ WP c (l.foldr g k) Q) := by
  induction l generalizing k with
  | nil =>
    iintro ⟨-, HA, HI⟩ Hk
    iapply Hk
    isplitl [HA]; · iexact HA
    iexact HI
  | cons x l ih =>
    rw [bigSepL_cons', bigSepL_cons']
    iintro ⟨#HR, ⟨HA, HAs⟩, HI⟩ Hk
    iapply (hs x l (l.foldr g k) Q) $$ [HA HI]
    · isplitr; · iexact HR
      isplitl [HA]; · iexact HA
      iexact HI
    iintro ⟨HB, HI⟩
    iapply (ih k) $$ [HAs HI]
    · isplitr; · iexact HR
      isplitl [HAs]; · iexact HAs
      iexact HI
    iintro ⟨HBs, HI⟩
    iapply Hk
    isplitl [HB HBs]
    · isplitl [HB]; · iexact HB
      iexact HBs
    iexact HI

/-- The same over everything a list enumerates. -/
theorem fold_all {α : Type} [Fintype α] [DecidableEq α] (c : Dev nD) (g : α → P (F := F) → P (F := F)) (R : sProp 𝕄) [BI.Persistent R] (I : List α → sProp 𝕄) (A B : α → sProp 𝕄)
    (hs : ∀ (x : α) (l : List α) (k : P (F := F)) (Q : PUnit.{1} → sProp 𝕄),
      iprop(R ∗ A x ∗ I (x :: l)) ⊢ iprop(((B x ∗ I l) -∗ WP c k Q) -∗ WP c (g x k) Q))
    (l : List α) (h : Finset.univ = l.toFinset) (hn : l.Nodup) (k : P (F := F)) (Q : PUnit.{1} → sProp 𝕄) :
    iprop(R ∗ bigSep Finset.univ A ∗ I l) ⊢ iprop(((bigSep Finset.univ B ∗ I []) -∗ WP c k Q) -∗ WP c (l.foldr g k) Q) := by
  rw [bigSep_univ_eq_bigSepL l h hn, bigSep_univ_eq_bigSepL l h hn]
  exact fold_list c g R I A B hs l k Q

theorem L4_all : (Finset.univ : Finset (Fin 4 × Fin 2)) = L4.toFinset := by decide
theorem L4_nodup : L4.Nodup := by decide
theorem L2_all : (Finset.univ : Finset (Fin 2 × Fin 2)) = L2.toFinset := by decide
theorem L2_nodup : L2.Nodup := by decide

/-- Every transfer a phase has still to send, or a later one, is above `n`, if those of each visit and the later ones are. -/
theorem above {α : Type} {f : α → List (Fin 2 × Fin 12)} {after : List (Fin 2 × Fin 12)} {n : ℕ} (hf : ∀ x, ∀ s ∈ f x, n < lev s.2)
    (ha : ∀ s ∈ after, n < lev s.2) (l : List α) : ∀ s ∈ l.flatMap f ++ after, n < lev s.2 := fun s hs => by
  rcases List.mem_append.mp hs with h | h
  · obtain ⟨x, -, hx⟩ := List.mem_flatMap.mp h
    exact hf x s hx
  · exact ha s h

/-! ## The phases -/

variable (X : Inputs F) (K : Dev nD × Key → ℕ) (c : Dev nD)

/-- The invariants and the levels, which every phase may consult. -/
def ctx : sProp 𝕄 := iprop(recs X K ∗ levAts L lv)
instance ctx_persistent : BI.Persistent (ctx X K) := by unfold ctx; infer_instance

/-- What is owed at the start of a phase over `l`, sending `f` at each visit and `after` later. -/
abbrev oweL {α : Type} (f : α → List (Fin 2 × Fin 12)) (after : List (Fin 2 × Fin 12)) (l : List α) : sProp 𝕄 := oweS c (owed c (l.flatMap f ++ after))

/-- Exchange 1 sent. -/
theorem f1_phase {Q : PUnit.{1} → sProp 𝕄} {k : P (F := F)} :
    iprop(ctx X K ∗ ((bigSep Finset.univ fun x : Fin 4 × Fin 2 => any c (pA x.2 (nk x.2 x.1 c)))
        ∗ (bigSep Finset.univ fun x : Fin 4 × Fin 2 => any (pal x.2 c) (p1 x.2 x.1))
        ∗ bigSep Finset.univ fun x : Fin 4 × Fin 2 => tick c x.2 (t1 x.1))
      ∗ xs X c ∗ oweS c (owed c sends))
    ⊢ iprop((((bigSep Finset.univ fun x : Fin 4 × Fin 2 => sent c x.2 (t1 x.1)) ∗ xs X c ∗ oweS c (owed c after1)) -∗ WP c k Q)
      -∗ WP c (L4.foldr (f1 c) k) Q) := by
  rw [← bigSep_sep', ← bigSep_sep']
  refine fold_all c (f1 c) (ctx X K) (fun l => iprop(xs X c ∗ oweL c s1 after1 l)) _ _ (fun x l k Q => ?_) L4 L4_all L4_nodup k Q
  obtain ⟨j, d⟩ := x
  unfold f1 ctx
  iintro ⟨⟨#HR, -⟩, ⟨HA, HB, Ht⟩, Hx, HO⟩ Hk
  iapply (gFill_rule X c d (nk d j c) (inN_eq d j c) (acN_eq d j c) _ _ _) $$ [Hx HA]
  · isplitl [Hx]; · iexact Hx
    iexact HA
  iintro ⟨Hx, HA⟩
  have hp : dest d (t1 j) c = pal d c := by fin_cases j <;> rfl
  iapply (gSend_give_rule X K c (pN d j c) (p1 d j) (pN_exact d j c) (p1_exact d j) d (t1 j) (tdev_eq d (t1 j) c) (inP X d (nk d j c) c)
      (l.flatMap s1 ++ after1) (by rw [sndPay_t1])
      (by rw [rcvPay_t1, hp]; unfold pay1; rw [kp_pal, pal_pal, pN_eq])) $$ [HA HB Ht HO]
  · isplitr; · iexact HR
    isplitl [HA]; · rw [pN_eq]; iexact HA
    isplitl [HB]; · rw [hp]; iexact HB
    isplitl [Ht]; · iexact Ht
    iexact HO
  iintro ⟨Hs, HO⟩
  iapply Hk
  isplitl [Hs]; · iexact Hs
  isplitl [Hx]; · iexact Hx
  iexact HO

/-- The kept pieces filled. -/
theorem f2_phase {Q : PUnit.{1} → sProp 𝕄} {k : P (F := F)} :
    iprop(ctx X K ∗ (bigSep Finset.univ fun x : Fin 4 × Fin 2 => any c (pA x.2 (kp x.2 x.1 c))) ∗ xs X c)
    ⊢ iprop((((bigSep Finset.univ fun x : Fin 4 × Fin 2 => at1 c (pA x.2 (kp x.2 x.1 c)) (inP X x.2 (kp x.2 x.1 c) c)) ∗ xs X c) -∗ WP c k Q)
      -∗ WP c (L4.foldr (f2 c) k) Q) := by
  refine fold_all c (f2 c) (ctx X K) (fun _ => xs X c) _ _ (fun x l k Q => ?_) L4 L4_all L4_nodup k Q
  obtain ⟨j, d⟩ := x
  unfold f2
  iintro ⟨-, HA, Hx⟩ Hk
  iapply (gFill_rule X c d (kp d j c) (inK_eq d j c) (acK_eq d j c) _ _ _) $$ [Hx HA]
  · isplitl [Hx]; · iexact Hx
    iexact HA
  iintro ⟨Hx, HA⟩
  iapply Hk
  isplitl [HA]; · iexact HA
  iexact Hx

/-- A landing of exchange 1 awaited and added on. -/
theorem f3_rule {Q : PUnit.{1} → sProp 𝕄} {k : P (F := F)} (d : Fin 2) (j : Fin 4) (l : List (Fin 2 × Fin 12)) (hl : ∀ s ∈ l, lev (t1 j) < lev s.2) :
    iprop(ctx X K ∗ at1 c (pA d (kp d j c)) (inP X d (kp d j c) c) ∗ stub c d (t1 j) ∗ oweS c (owed c l))
    ⊢ iprop(((any c (p1 d j) ∗ any (pal d c) (pA d (kp d j c)) ∗ done c (.inr (1, d, t1 j)) ∗ at1 c (pA d (kp d j c)) (sumA X d j c) ∗ oweS c (owed c l)) -∗ WP c k Q)
      -∗ WP c (f3 c (j, d) k) Q) := by
  unfold f3 ctx
  iintro ⟨⟨#HR, #HL⟩, HA, Hs, HO⟩ Hk
  iapply (gWait_rcv_rule X K c _ _ _ _ d (t1 j) l hl) $$ [Hs HO]
  · isplitr; · iexact HR
    isplitr; · iexact HL
    isplitl [Hs]; · iexact Hs
    iexact HO
  rw [rcvPay_t1]
  unfold pay1
  iintro ⟨⟨H1, Hp⟩, Hd, HO⟩
  iapply (gAdd_rule c d (kp d j c) s1M (acK_eq d j c) _ _ (s1o_inb d j) (inP X d (kp d j c) c) (inP X d (kp d j c) (pal d c))) $$ [HA H1]
  · isplitl [HA]; · iexact HA
    iexact H1
  iintro ⟨HA, H1⟩
  iapply Hk
  isplitl [H1]; · iapply (any_intro c (p1 d j) _); iexact H1
  isplitl [Hp]; · iapply (any_intro (pal d c) (pA d (kp d j c)) _); iexact Hp
  isplitl [Hd]; · iexact Hd
  isplitl [HA]; · iexact HA
  iexact HO

/-- The first quarter: each sum is sent on. -/
theorem f3s_phase {Q : PUnit.{1} → sProp 𝕄} {k : P (F := F)} :
    iprop(ctx X K ∗ ((bigSep Finset.univ fun x : Fin 2 × Fin 2 => at1 c (pA x.2 (kp x.2 (lo x.1) c)) (inP X x.2 (kp x.2 (lo x.1) c) c))
        ∗ (bigSep Finset.univ fun x : Fin 2 × Fin 2 => stub c x.2 (t1 (lo x.1)))
        ∗ (bigSep Finset.univ fun x : Fin 2 × Fin 2 => any (mate x.2 c) (p2 x.2 x.1))
        ∗ bigSep Finset.univ fun x : Fin 2 × Fin 2 => tick c x.2 (t2 x.1))
      ∗ oweS c (owed c after1))
    ⊢ iprop(((((bigSep Finset.univ fun x : Fin 2 × Fin 2 => any c (p1 x.2 (lo x.1)))
        ∗ (bigSep Finset.univ fun x : Fin 2 × Fin 2 => any (pal x.2 c) (pA x.2 (kp x.2 (lo x.1) c)))
        ∗ (bigSep Finset.univ fun x : Fin 2 × Fin 2 => done c (.inr (1, x.2, t1 (lo x.1))))
        ∗ bigSep Finset.univ fun x : Fin 2 × Fin 2 => sent c x.2 (t2 x.1))
      ∗ oweS c (owed c after2)) -∗ WP c k Q) -∗ WP c (L2.foldr (f3s c) k) Q) := by
  simp only [← bigSep_sep']
  refine fold_all c (f3s c) (ctx X K) (oweL c s2 after2) _ _ (fun x l k Q => ?_) L2 L2_all L2_nodup k Q
  obtain ⟨i, d⟩ := x
  unfold f3s
  iintro ⟨#HC, ⟨HA, Hs, HB, Ht⟩, HO⟩ Hk
  iapply (f3_rule X K c d (lo i) _ (by
      rw [show lev (t1 (lo i)) = 2 by fin_cases i <;> rfl]
      exact above (f := s2) (after := after2) (by decide) (by decide) ((i, d) :: l))) $$ [HA Hs HO]
  · isplitr; · iexact HC
    isplitl [HA]; · iexact HA
    isplitl [Hs]; · iexact Hs
    iexact HO
  iintro ⟨H1, Hp, Hd, HA, HO⟩
  have hp : dest d (t2 i) c = mate d c := by fin_cases i <;> rfl
  unfold ctx
  icases HC with ⟨#HR, -⟩
  iapply (gSend_give_rule X K c (pK d (lo i) c) (p2 d i) (pK_exact d (lo i) c) (p2_exact d i) d (t2 i) (tdev_eq d (t2 i) c) (sumA X d (lo i) c)
      (l.flatMap s2 ++ after2) (by rw [sndPay_t2])
      (by rw [rcvPay_t2, hp]; unfold pay2; rw [kp_mate_hi, mate_mate, pK_eq])) $$ [HA HB Ht HO]
  · isplitr; · iexact HR
    isplitl [HA]; · rw [pK_eq]; iexact HA
    isplitl [HB]; · rw [hp]; iexact HB
    isplitl [Ht]; · iexact Ht
    iexact HO
  iintro ⟨Hs, HO⟩
  iapply Hk
  isplitr [HO]
  · isplitl [H1]; · iexact H1
    isplitl [Hp]; · iexact Hp
    isplitl [Hd]; · iexact Hd
    iexact Hs
  iexact HO

/-- A visit of the second quarter. -/
def f3k (x : Fin 2 × Fin 2) (k : P (F := F)) : P (F := F) := f3 c (hi x.1, x.2) k

/-- The second quarter: each sum is kept. -/
theorem f3_phase {Q : PUnit.{1} → sProp 𝕄} {k : P (F := F)} :
    iprop(ctx X K ∗ ((bigSep Finset.univ fun x : Fin 2 × Fin 2 => at1 c (pA x.2 (kp x.2 (hi x.1) c)) (inP X x.2 (kp x.2 (hi x.1) c) c))
        ∗ bigSep Finset.univ fun x : Fin 2 × Fin 2 => stub c x.2 (t1 (hi x.1)))
      ∗ oweS c (owed c after2))
    ⊢ iprop(((((bigSep Finset.univ fun x : Fin 2 × Fin 2 => any c (p1 x.2 (hi x.1)))
        ∗ (bigSep Finset.univ fun x : Fin 2 × Fin 2 => any (pal x.2 c) (pA x.2 (kp x.2 (hi x.1) c)))
        ∗ (bigSep Finset.univ fun x : Fin 2 × Fin 2 => done c (.inr (1, x.2, t1 (hi x.1))))
        ∗ bigSep Finset.univ fun x : Fin 2 × Fin 2 => at1 c (pA x.2 (kp x.2 (hi x.1) c)) (sumA X x.2 (hi x.1) c))
      ∗ oweS c (owed c after2)) -∗ WP c k Q) -∗ WP c (L2.foldr (f3k c) k) Q) := by
  simp only [← bigSep_sep']
  refine fold_all c (f3k c) (ctx X K) (fun _ => oweS c (owed c after2)) _ _ (fun x l k Q => ?_) L2 L2_all L2_nodup k Q
  obtain ⟨i, d⟩ := x
  unfold f3k
  iintro ⟨#HC, ⟨HA, Hs⟩, HO⟩ Hk
  iapply (f3_rule X K c d (hi i) after2 (by revert i; decide)) $$ [HA Hs HO]
  · isplitr; · iexact HC
    isplitl [HA]; · iexact HA
    isplitl [Hs]; · iexact Hs
    iexact HO
  iintro ⟨H1, Hp, Hd, HA, HO⟩
  iapply Hk
  isplitr [HO]
  · isplitl [H1]; · iexact H1
    isplitl [Hp]; · iexact Hp
    isplitl [Hd]; · iexact Hd
    iexact HA
  iexact HO

/-- Exchange 2 awaited and added on: the second quarter is finished, sent to both partners and copied out. -/
theorem f4_phase {Q : PUnit.{1} → sProp 𝕄} {k : P (F := F)} :
    iprop(ctx X K ∗ ((bigSep Finset.univ fun x : Fin 2 × Fin 2 => at1 c (pA x.2 (kp x.2 (hi x.1) c)) (sumA X x.2 (hi x.1) c))
        ∗ (bigSep Finset.univ fun x : Fin 2 × Fin 2 => stub c x.2 (t2 x.1))
        ∗ (bigSep Finset.univ fun x : Fin 2 × Fin 2 => tick c x.2 (t3 x.1))
        ∗ (bigSep Finset.univ fun x : Fin 2 × Fin 2 => tick c x.2 (t4 (hi x.1)))
        ∗ (bigSep Finset.univ fun x : Fin 2 × Fin 2 => any (pal x.2 c) (pA x.2 (kp x.2 (hi x.1) c)))
        ∗ bigSep Finset.univ fun x : Fin 2 × Fin 2 => any c (pO x.2 (kp x.2 (hi x.1) c)))
      ∗ oweS c (owed c after2))
    ⊢ iprop(((((bigSep Finset.univ fun x : Fin 2 × Fin 2 => any c (p2 x.2 x.1))
        ∗ (bigSep Finset.univ fun x : Fin 2 × Fin 2 => done c (.inr (1, x.2, t2 x.1)))
        ∗ (bigSep Finset.univ fun x : Fin 2 × Fin 2 => sent c x.2 (t3 x.1))
        ∗ (bigSep Finset.univ fun x : Fin 2 × Fin 2 => sent c x.2 (t4 (hi x.1)))
        ∗ (bigSep Finset.univ fun x : Fin 2 × Fin 2 => atq c (pA x.2 (kp x.2 (hi x.1) c)) qk (fin X x.2 (kp x.2 (hi x.1) c)))
        ∗ bigSep Finset.univ fun x : Fin 2 × Fin 2 => at1 c (pO x.2 (kp x.2 (hi x.1) c)) (k0_pay32 (fin X x.2 (kp x.2 (hi x.1) c))))
      ∗ oweS c (owed c after3)) -∗ WP c k Q) -∗ WP c (L2.foldr (f4 c) k) Q) := by
  simp only [← bigSep_sep']
  refine fold_all c (f4 c) (ctx X K) (oweL c s3 after3) _ _ (fun x l k Q => ?_) L2 L2_all L2_nodup k Q
  obtain ⟨i, d⟩ := x
  have h3 : dest d (t3 i) c = mate d c := by fin_cases i <;> rfl
  have h4 : dest d (t4 (hi i)) c = pal d c := by fin_cases i <;> rfl
  unfold f4 ctx
  iintro ⟨⟨#HR, #HL⟩, ⟨HA, Hs, Ht3, Ht4, HB, Ho⟩, HO⟩ Hk
  iapply (gWait_rcv_rule X K c _ _ _ _ d (t2 i) _ (by
      rw [show lev (t2 i) = 3 by fin_cases i <;> rfl]
      exact above (f := s3) (after := after3) (by decide) (by decide) ((i, d) :: l))) $$ [Hs HO]
  · isplitr; · iexact HR
    isplitr; · iexact HL
    isplitl [Hs]; · iexact Hs
    iexact HO
  rw [rcvPay_t2]
  unfold pay2
  iintro ⟨⟨H2, Hp⟩, Hd, HO⟩
  iapply (gAdd_rule c d (kp d (hi i) c) s2M (acK_eq d (hi i) c) _ _ (s2o_inb d i) (sumA X d (hi i) c) (sumA X d (lo i) (mate d c))) $$ [HA H2]
  · isplitl [HA]; · iexact HA
    iexact H2
  iintro ⟨HA, H2⟩
  ihave HA := (Entails.of_eq (show at1 c (pA d (kp d (hi i) c)) (k0_pay19 (sumA X d (hi i) c) (sumA X d (lo i) (mate d c))) = at1 c (pA d (kp d (hi i) c)) (fin X d (kp d (hi i) c)) by
    rw [fin_kp]; rfl)) $$ HA
  ihave HA := ((owns_halves (c : Thread nD τ) (pA d (kp d (hi i) c)) fullShare (fin X d (kp d (hi i) c))).1) $$ HA
  icases HA with ⟨HAa, HA⟩
  ihave HA := ((owns_halves (c : Thread nD τ) (pA d (kp d (hi i) c)) fullShare.right (fin X d (kp d (hi i) c))).1) $$ HA
  icases HA with ⟨HAb, HA⟩
  iapply (gSend_rule X K c (pK d (hi i) c) (pK d (hi i) c) (pK_exact d (hi i) c) (pK_exact d (hi i) c) d (t3 i) (tdev_eq d (t3 i) c) qa (fin X d (kp d (hi i) c))
      ((d, t4 (hi i)) :: (l.flatMap s3 ++ after3)) (by rw [sndPay_t3, pK_eq]; exact .rfl)
      (by rw [rcvPay_t3, h3, pK_eq]; unfold pay3; rw [kp_mate_lo])) $$ [HAa Hp Ht3 HO]
  · isplitr; · iexact HR
    isplitl [HAa]; · rw [pK_eq]; iexact HAa
    isplitl [Hp]; · rw [h3, pK_eq]; iapply (any_intro (mate d c) (pA d (kp d (hi i) c)) _); iexact Hp
    isplitl [Ht3]; · iexact Ht3
    iexact HO
  iintro ⟨Hs3, HO⟩
  iapply (gSend_rule X K c (pK d (hi i) c) (pK d (hi i) c) (pK_exact d (hi i) c) (pK_exact d (hi i) c) d (t4 (hi i)) (tdev_eq d (t4 (hi i)) c) qb (fin X d (kp d (hi i) c))
      (l.flatMap s3 ++ after3) (by rw [sndPay_t4h, pK_eq]; exact .rfl)
      (by rw [rcvPay_t4, h4, pK_eq]; unfold pay4; rw [nk_pal])) $$ [HAb HB Ht4 HO]
  · isplitr; · iexact HR
    isplitl [HAb]; · rw [pK_eq]; iexact HAb
    isplitl [HB]; · rw [h4, pK_eq]; iexact HB
    isplitl [Ht4]; · iexact Ht4
    iexact HO
  iintro ⟨Hs4, HO⟩
  iapply (gOut_rule c d (kp d (hi i) c) (inK_eq d (hi i) c) (acK_eq d (hi i) c) _ _ _ qk (fin X d (kp d (hi i) c))) $$ [HA Ho]
  · isplitl [HA]; · iexact HA
    iexact Ho
  iintro ⟨HA, Ho⟩
  iapply Hk
  isplitr [HO]
  · isplitl [H2]; · iapply (any_intro c (p2 d i) _); iexact H2
    isplitl [Hd]; · iexact Hd
    isplitl [Hs3]; · iexact Hs3
    isplitl [Hs4]; · iexact Hs4
    isplitl [HA]; · iexact HA
    iexact Ho
  iexact HO

/-- Exchange 3 awaited: the first quarter is finished, sent on and copied out. -/
theorem f5_phase {Q : PUnit.{1} → sProp 𝕄} {k : P (F := F)} :
    iprop(ctx X K ∗ ((bigSep Finset.univ fun x : Fin 2 × Fin 2 => stub c x.2 (t3 x.1))
        ∗ (bigSep Finset.univ fun x : Fin 2 × Fin 2 => tick c x.2 (t4 (lo x.1)))
        ∗ (bigSep Finset.univ fun x : Fin 2 × Fin 2 => any (pal x.2 c) (pA x.2 (kp x.2 (lo x.1) c)))
        ∗ bigSep Finset.univ fun x : Fin 2 × Fin 2 => any c (pO x.2 (kp x.2 (lo x.1) c)))
      ∗ oweS c (owed c after3))
    ⊢ iprop(((((bigSep Finset.univ fun x : Fin 2 × Fin 2 => done c (.inr (1, x.2, t3 x.1)))
        ∗ (bigSep Finset.univ fun x : Fin 2 × Fin 2 => sent c x.2 (t4 (lo x.1)))
        ∗ (bigSep Finset.univ fun x : Fin 2 × Fin 2 => atq c (pA x.2 (kp x.2 (lo x.1) c)) qr (fin X x.2 (kp x.2 (lo x.1) c)))
        ∗ bigSep Finset.univ fun x : Fin 2 × Fin 2 => at1 c (pO x.2 (kp x.2 (lo x.1) c)) (k0_pay32 (fin X x.2 (kp x.2 (lo x.1) c))))
      ∗ oweS c (owed c after4)) -∗ WP c k Q) -∗ WP c (L2.foldr (f5 c) k) Q) := by
  simp only [← bigSep_sep']
  refine fold_all c (f5 c) (ctx X K) (oweL c s4 after4) _ _ (fun x l k Q => ?_) L2 L2_all L2_nodup k Q
  obtain ⟨i, d⟩ := x
  have h4 : dest d (t4 (lo i)) c = pal d c := by fin_cases i <;> rfl
  unfold f5 ctx
  iintro ⟨⟨#HR, #HL⟩, ⟨Hs, Ht, HB, Ho⟩, HO⟩ Hk
  iapply (gWait_rcv_rule X K c _ _ _ _ d (t3 i) _ (by
      rw [show lev (t3 i) = 4 by fin_cases i <;> rfl]
      exact above (f := s4) (after := after4) (by decide) (by decide) ((i, d) :: l))) $$ [Hs HO]
  · isplitr; · iexact HR
    isplitr; · iexact HL
    isplitl [Hs]; · iexact Hs
    iexact HO
  rw [rcvPay_t3]
  unfold pay3
  iintro ⟨HA, Hd, HO⟩
  ihave HA := ((owns_halves (c : Thread nD τ) (pA d (kp d (lo i) c)) fullShare (fin X d (kp d (lo i) c))).1) $$ HA
  icases HA with ⟨HAa, HA⟩
  iapply (gSend_rule X K c (pK d (lo i) c) (pK d (lo i) c) (pK_exact d (lo i) c) (pK_exact d (lo i) c) d (t4 (lo i)) (tdev_eq d (t4 (lo i)) c) qa (fin X d (kp d (lo i) c))
      (l.flatMap s4 ++ after4) (by rw [sndPay_t4l, pK_eq]; exact .rfl)
      (by rw [rcvPay_t4, h4, pK_eq]; unfold pay4; rw [nk_pal])) $$ [HAa HB Ht HO]
  · isplitr; · iexact HR
    isplitl [HAa]; · rw [pK_eq]; iexact HAa
    isplitl [HB]; · rw [h4, pK_eq]; iexact HB
    isplitl [Ht]; · iexact Ht
    iexact HO
  iintro ⟨Hs4, HO⟩
  iapply (gOut_rule c d (kp d (lo i) c) (inK_eq d (lo i) c) (acK_eq d (lo i) c) _ _ _ qr (fin X d (kp d (lo i) c))) $$ [HA Ho]
  · isplitl [HA]; · iexact HA
    iexact Ho
  iintro ⟨HA, Ho⟩
  iapply Hk
  isplitr [HO]
  · isplitl [Hd]; · iexact Hd
    isplitl [Hs4]; · iexact Hs4
    isplitl [HA]; · iexact HA
    iexact Ho
  iexact HO

/-- Exchange 4 awaited: the given-away pieces are back, finished, and copied out. -/
theorem f6_phase {Q : PUnit.{1} → sProp 𝕄} {k : P (F := F)} :
    iprop(ctx X K ∗ ((bigSep Finset.univ fun x : Fin 4 × Fin 2 => stub c x.2 (t4 x.1))
        ∗ bigSep Finset.univ fun x : Fin 4 × Fin 2 => any c (pO x.2 (nk x.2 x.1 c)))
      ∗ oweS c 0)
    ⊢ iprop(((((bigSep Finset.univ fun x : Fin 4 × Fin 2 => done c (.inr (1, x.2, t4 x.1)))
        ∗ (bigSep Finset.univ fun x : Fin 4 × Fin 2 => any c (pA x.2 (nk x.2 x.1 c)))
        ∗ bigSep Finset.univ fun x : Fin 4 × Fin 2 => at1 c (pO x.2 (nk x.2 x.1 c)) (k0_pay32 (fin X x.2 (nk x.2 x.1 c))))
      ∗ oweS c 0) -∗ WP c k Q) -∗ WP c (L4.foldr (f6 c) k) Q) := by
  simp only [← bigSep_sep']
  refine fold_all c (f6 c) (ctx X K) (fun _ => oweS c 0) _ _ (fun x l k Q => ?_) L4 L4_all L4_nodup k Q
  obtain ⟨j, d⟩ := x
  unfold f6 ctx
  iintro ⟨⟨#HR, #HL⟩, ⟨Hs, Ho⟩, HO⟩ Hk
  iapply (gWait_rcv_rule X K c _ _ _ _ d (t4 j) [] (fun s hs => absurd hs List.not_mem_nil)) $$ [Hs HO]
  · isplitr; · iexact HR
    isplitr; · iexact HL
    isplitl [Hs]; · iexact Hs
    iexact HO
  rw [rcvPay_t4]
  unfold pay4
  iintro ⟨HA, Hd, HO⟩
  iapply (gOut_rule c d (nk d j c) (inN_eq d j c) (acN_eq d j c) _ _ _ fullShare (fin X d (nk d j c))) $$ [HA Ho]
  · isplitl [HA]; · iexact HA
    iexact Ho
  iintro ⟨HA, Ho⟩
  iapply Hk
  isplitr [HO]
  · isplitl [Hd]; · iexact Hd
    isplitl [HA]; · iapply (any_intro c (pA d (nk d j c)) _); iexact HA
    iexact Ho
  iexact HO

/-! ### The own sends awaited -/

/-- The sends of exchange 1, whose pieces have long gone; -/
theorem w1_phase {Q : PUnit.{1} → sProp 𝕄} {k : P (F := F)} :
    iprop(ctx X K ∗ ((bigSep Finset.univ fun x : Fin 4 × Fin 2 => sent c x.2 (t1 x.1))
        ∗ bigSep Finset.univ fun x : Fin 4 × Fin 2 => atPos EK (sndC c x.2 (t1 x.1)) 0 ∅ 0)
      ∗ oweS c 0)
    ⊢ iprop((((bigSep Finset.univ fun x : Fin 4 × Fin 2 => done c (.inr (0, x.2, t1 x.1))) ∗ oweS c 0) -∗ WP c k Q)
      -∗ WP c (L4.foldr (w1 c) k) Q) := by
  simp only [← bigSep_sep']
  refine fold_all c (w1 c) (ctx X K) (fun _ => oweS c 0) _ _ (fun x l k Q => ?_) L4 L4_all L4_nodup k Q
  obtain ⟨j, d⟩ := x
  unfold w1 ctx
  iintro ⟨⟨#HR, -⟩, ⟨Hs, Ha⟩, HO⟩ Hk
  iapply (gWait_snd_rule X K c _ _ _ _ d (t1 j)) $$ [Hs Ha HO]
  · isplitr; · iexact HR
    isplitl [Hs]; · iexact Hs
    isplitl [Ha]; · iexact Ha
    iexact HO
  iintro ⟨-, Hd, HO⟩
  iapply Hk
  isplitl [Hd]; · iexact Hd
  iexact HO

/-- those of exchange 2, likewise; -/
theorem w2_phase {Q : PUnit.{1} → sProp 𝕄} {k : P (F := F)} :
    iprop(ctx X K ∗ ((bigSep Finset.univ fun x : Fin 2 × Fin 2 => sent c x.2 (t2 x.1))
        ∗ bigSep Finset.univ fun x : Fin 2 × Fin 2 => atPos EK (sndC c x.2 (t2 x.1)) 0 ∅ 0)
      ∗ oweS c 0)
    ⊢ iprop((((bigSep Finset.univ fun x : Fin 2 × Fin 2 => done c (.inr (0, x.2, t2 x.1))) ∗ oweS c 0) -∗ WP c k Q)
      -∗ WP c (L2.foldr (w2 c) k) Q) := by
  simp only [← bigSep_sep']
  refine fold_all c (w2 c) (ctx X K) (fun _ => oweS c 0) _ _ (fun x l k Q => ?_) L2 L2_all L2_nodup k Q
  obtain ⟨i, d⟩ := x
  unfold w2 ctx
  iintro ⟨⟨#HR, -⟩, ⟨Hs, Ha⟩, HO⟩ Hk
  iapply (gWait_snd_rule X K c _ _ _ _ d (t2 i)) $$ [Hs Ha HO]
  · isplitr; · iexact HR
    isplitl [Hs]; · iexact Hs
    isplitl [Ha]; · iexact Ha
    iexact HO
  iintro ⟨-, Hd, HO⟩
  iapply Hk
  isplitl [Hd]; · iexact Hd
  iexact HO

/-- those of a second quarter's finished piece, whose two lent shares rejoin the kept one; -/
theorem w3_phase {Q : PUnit.{1} → sProp 𝕄} {k : P (F := F)} :
    iprop(ctx X K ∗ ((bigSep Finset.univ fun x : Fin 2 × Fin 2 => sent c x.2 (t3 x.1))
        ∗ (bigSep Finset.univ fun x : Fin 2 × Fin 2 => atPos EK (sndC c x.2 (t3 x.1)) 0 ∅ 0)
        ∗ (bigSep Finset.univ fun x : Fin 2 × Fin 2 => sent c x.2 (t4 (hi x.1)))
        ∗ (bigSep Finset.univ fun x : Fin 2 × Fin 2 => atPos EK (sndC c x.2 (t4 (hi x.1))) 0 ∅ 0)
        ∗ bigSep Finset.univ fun x : Fin 2 × Fin 2 => atq c (pA x.2 (kp x.2 (hi x.1) c)) qk (fin X x.2 (kp x.2 (hi x.1) c)))
      ∗ oweS c 0)
    ⊢ iprop(((((bigSep Finset.univ fun x : Fin 2 × Fin 2 => done c (.inr (0, x.2, t3 x.1)))
        ∗ (bigSep Finset.univ fun x : Fin 2 × Fin 2 => done c (.inr (0, x.2, t4 (hi x.1))))
        ∗ bigSep Finset.univ fun x : Fin 2 × Fin 2 => any c (pA x.2 (kp x.2 (hi x.1) c)))
      ∗ oweS c 0) -∗ WP c k Q) -∗ WP c (L2.foldr (w3 c) k) Q) := by
  simp only [← bigSep_sep']
  refine fold_all c (w3 c) (ctx X K) (fun _ => oweS c 0) _ _ (fun x l k Q => ?_) L2 L2_all L2_nodup k Q
  obtain ⟨i, d⟩ := x
  unfold w3 ctx
  iintro ⟨⟨#HR, -⟩, ⟨Hs, Ha, Hs', Ha', HA⟩, HO⟩ Hk
  iapply (gWait_snd_rule X K c _ _ _ _ d (t3 i)) $$ [Hs Ha HO]
  · isplitr; · iexact HR
    isplitl [Hs]; · iexact Hs
    isplitl [Ha]; · iexact Ha
    iexact HO
  rw [sndPay_t3]
  unfold back3
  iintro ⟨HAa, Hd, HO⟩
  iapply (gWait_snd_rule X K c _ _ _ _ d (t4 (hi i))) $$ [Hs' Ha' HO]
  · isplitr; · iexact HR
    isplitl [Hs']; · iexact Hs'
    isplitl [Ha']; · iexact Ha'
    iexact HO
  rw [sndPay_t4h]
  unfold back4h
  iintro ⟨HAb, Hd', HO⟩
  iapply Hk
  isplitr [HO]
  · isplitl [Hd]; · iexact Hd
    isplitl [Hd']; · iexact Hd'
    iapply (any_intro c (pA d (kp d (hi i) c)) (fin X d (kp d (hi i) c)))
    iapply ((owns_halves (c : Thread nD τ) (pA d (kp d (hi i) c)) fullShare (fin X d (kp d (hi i) c))).2)
    isplitl [HAa]; · iexact HAa
    iapply ((owns_halves (c : Thread nD τ) (pA d (kp d (hi i) c)) fullShare.right (fin X d (kp d (hi i) c))).2)
    isplitl [HAb]; · iexact HAb
    iexact HA
  iexact HO

/-- and those of a first quarter's, whose one lent share rejoins. -/
theorem w4_phase {Q : PUnit.{1} → sProp 𝕄} {k : P (F := F)} :
    iprop(ctx X K ∗ ((bigSep Finset.univ fun x : Fin 2 × Fin 2 => sent c x.2 (t4 (lo x.1)))
        ∗ (bigSep Finset.univ fun x : Fin 2 × Fin 2 => atPos EK (sndC c x.2 (t4 (lo x.1))) 0 ∅ 0)
        ∗ bigSep Finset.univ fun x : Fin 2 × Fin 2 => atq c (pA x.2 (kp x.2 (lo x.1) c)) qr (fin X x.2 (kp x.2 (lo x.1) c)))
      ∗ oweS c 0)
    ⊢ iprop(((((bigSep Finset.univ fun x : Fin 2 × Fin 2 => done c (.inr (0, x.2, t4 (lo x.1))))
        ∗ bigSep Finset.univ fun x : Fin 2 × Fin 2 => any c (pA x.2 (kp x.2 (lo x.1) c)))
      ∗ oweS c 0) -∗ WP c k Q) -∗ WP c (L2.foldr (w4 c) k) Q) := by
  simp only [← bigSep_sep']
  refine fold_all c (w4 c) (ctx X K) (fun _ => oweS c 0) _ _ (fun x l k Q => ?_) L2 L2_all L2_nodup k Q
  obtain ⟨i, d⟩ := x
  unfold w4 ctx
  iintro ⟨⟨#HR, -⟩, ⟨Hs, Ha, HA⟩, HO⟩ Hk
  iapply (gWait_snd_rule X K c _ _ _ _ d (t4 (lo i))) $$ [Hs Ha HO]
  · isplitr; · iexact HR
    isplitl [Hs]; · iexact Hs
    isplitl [Ha]; · iexact Ha
    iexact HO
  rw [sndPay_t4l]
  unfold back4l
  iintro ⟨HAa, Hd, HO⟩
  iapply Hk
  isplitr [HO]
  · isplitl [Hd]; · iexact Hd
    iapply (any_intro c (pA d (kp d (lo i) c)) (fin X d (kp d (lo i) c)))
    iapply ((owns_halves (c : Thread nD τ) (pA d (kp d (lo i) c)) fullShare (fin X d (kp d (lo i) c))).2)
    isplitl [HAa]; · iexact HAa
    iexact HA
  iexact HO

end Cert.AllReduce

end
-- ==== Proof.Body.lean ====
module

public import proofs.«01_k».proof.Proof.Phases

/-! # The whole body

Buffers are cut in pieces and semaphores grouped by exchange, the phases follow one another, and everything is put
together again. -/

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Regrouping -/

/-- Pieces of a half, by quarter. -/
def quarter : (Fin 2 × Fin 2) ⊕ (Fin 2 × Fin 2) → Fin 4 × Fin 2
  | .inl x => (lo x.1, x.2)
  | .inr x => (hi x.1, x.2)
theorem quarter_bij : Function.Bijective quarter := by decide +kernel
/-- Transfers, by exchange. -/
def exchange : (Fin 4 × Fin 2) ⊕ (Fin 2 × Fin 2) ⊕ (Fin 2 × Fin 2) ⊕ (Fin 4 × Fin 2) → Fin 2 × Fin 12
  | .inl x => (x.2, t1 x.1)
  | .inr (.inl x) => (x.2, t2 x.1)
  | .inr (.inr (.inl x)) => (x.2, t3 x.1)
  | .inr (.inr (.inr x)) => (x.2, t4 x.1)
theorem exchange_bij : Function.Bijective exchange := by decide +kernel

theorem quarters (Φ : Fin 4 × Fin 2 → sProp 𝕄) : bigSep Finset.univ Φ
    = iprop((bigSep Finset.univ fun x : Fin 2 × Fin 2 => Φ (lo x.1, x.2)) ∗ bigSep Finset.univ fun x : Fin 2 × Fin 2 => Φ (hi x.1, x.2)) := by
  rw [bigSep_univ_equiv (Equiv.ofBijective quarter quarter_bij), bigSep_univ_sum]; rfl
theorem exchanges (Φ : Fin 2 × Fin 12 → sProp 𝕄) : bigSep Finset.univ Φ
    = iprop((bigSep Finset.univ fun x : Fin 4 × Fin 2 => Φ (x.2, t1 x.1)) ∗ (bigSep Finset.univ fun x : Fin 2 × Fin 2 => Φ (x.2, t2 x.1))
      ∗ (bigSep Finset.univ fun x : Fin 2 × Fin 2 => Φ (x.2, t3 x.1)) ∗ bigSep Finset.univ fun x : Fin 4 × Fin 2 => Φ (x.2, t4 x.1)) := by
  rw [bigSep_univ_equiv (Equiv.ofBijective exchange exchange_bij), bigSep_univ_sum, bigSep_univ_sum, bigSep_univ_sum]; rfl
theorem all_pieces (c : Dev nD) (Φ : Fin 2 × Fin 8 → sProp 𝕄) : bigSep Finset.univ Φ
    = iprop((bigSep Finset.univ fun x : Fin 4 × Fin 2 => Φ (x.2, nk x.2 x.1 c)) ∗ bigSep Finset.univ fun x : Fin 4 × Fin 2 => Φ (x.2, kp x.2 x.1 c)) := by
  rw [bigSep_univ_equiv (Equiv.ofBijective (pieces c) (pieces_bij c)), bigSep_univ_sum]; rfl
theorem both {α : Type} [Fintype α] (Φ : α × Fin 2 → sProp 𝕄) : bigSep Finset.univ Φ
    = iprop((bigSep Finset.univ fun a => Φ (a, 0)) ∗ bigSep Finset.univ fun a => Φ (a, 1)) := by
  rw [bigSep_univ_prod, ← bigSep_sep']
  exact bigSep_congr fun a _ => bigSep_univ_two fun b => Φ (a, b)
theorem all_keys (Φ : Key → sProp 𝕄) : bigSep Finset.univ Φ
    = iprop(Φ (.inl ()) ∗ (bigSep Finset.univ fun s : Fin 2 × Fin 12 => Φ (.inr (0, s))) ∗ bigSep Finset.univ fun s : Fin 2 × Fin 12 => Φ (.inr (1, s))) := by
  rw [bigSep_univ_sum, bigSep_univ_of_subsingleton (Φ := fun u : Unit => Φ (.inl u)) (), bigSep_univ_prod fun k : XK => Φ (.inr k), bigSep_univ_two]; rfl

/-! ## Buffers -/

section Rects
variable (c : Dev nD) {sp : Space} {s : Shape} {e : EltTy} (M : Memref sig .tc sp s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ)
include hd hcov

theorem any_split : (any c M : sProp 𝕄) ⊢ bigSep Finset.univ fun t => any c (M.slice (r t) (hr t)) := by
  unfold any
  iintro ⟨%Y, H⟩
  iapply (show (bigSep Finset.univ fun t => owns (c : Thread nD τ) (M.slice (r t) (hr t)) fullShare fun j => Y ((r t).emb j))
      ⊢ (bigSep Finset.univ fun t => any c (M.slice (r t) (hr t)) : sProp 𝕄) from bigSep_mono fun t _ => any_intro c (M.slice (r t) (hr t)) _)
  iapply (owns_rects (c : Thread nD τ) M fullShare r hr hd hcov Y)
  iexact H

theorem any_join : (bigSep Finset.univ fun t => any c (M.slice (r t) (hr t)) : sProp 𝕄) ⊢ any c M := by
  unfold any
  iintro H
  ihave H := (bigSep_exists_pi Finset.univ fun t (Y : (r t).shape.Idx → Elt F e) => owns (c : Thread nD τ) (M.slice (r t) (hr t)) fullShare Y) $$ H
  icases H with ⟨%Y, H⟩
  iexists (Rect.glue r hcov Y)
  iapply (owns_of_rects (c : Thread nD τ) M fullShare r hr hd hcov (Rect.glue r hcov Y))
  iapply (Entails.of_eq (bigSep_congr (s := Finset.univ) fun t _ => congrArg (owns (c : Thread nD τ) (M.slice (r t) (hr t)) fullShare)
    (show Y t = fun j => Rect.glue r hcov Y ((r t).emb j) from funext fun j => (Rect.glue_emb r hcov hd Y t j).symm)))
  iexact H

/-- A buffer owned whatever it holds is each of its pieces owned whatever they hold. -/
theorem any_rects : (any c M : sProp 𝕄) = bigSep Finset.univ fun t => any c (M.slice (r t) (hr t)) :=
  equiv_iff.mp ⟨any_split c M r hr hd hcov, any_join c M r hr hd hcov⟩

end Rects

variable (X : Inputs F)

/-- The result: each piece finished. -/
def outAt : S2048x1024.Idx → Elt F .bf16 := Rect.glue xR xR_cover fun x => k0_pay32 (fin X x.1 x.2)

theorem out_join (c : Dev nD) : (bigSep Finset.univ fun x : Fin 2 × Fin 8 => at1 c (pO x.1 x.2) (k0_pay32 (fin X x.1 x.2))) ⊢ at1 c outM (outAt X) := by
  refine BI.Entails.trans ?_ (owns_of_rects (c : Thread nD τ) outM fullShare xR (fun _ _ => rfl) xR_disjoint xR_cover (outAt X))
  exact Entails.of_eq (bigSep_congr fun x _ => congrArg (owns (c : Thread nD τ) (pO x.1 x.2) fullShare)
    (funext fun j => (Rect.glue_emb xR xR_cover xR_disjoint (fun x => k0_pay32 (fin X x.1 x.2)) x j).symm))

variable (K : Dev nD × Key → ℕ) (c : Dev nD)

theorem acc_pieces : (any c accM : sProp 𝕄) = iprop((bigSep Finset.univ fun x : Fin 4 × Fin 2 => any c (pA x.2 (nk x.2 x.1 c)))
    ∗ (bigSep Finset.univ fun x : Fin 2 × Fin 2 => any c (pA x.2 (kp x.2 (lo x.1) c))) ∗ bigSep Finset.univ fun x : Fin 2 × Fin 2 => any c (pA x.2 (kp x.2 (hi x.1) c))) := by
  rw [any_rects c accM aR (fun _ _ => rfl) aR_disjoint aR_cover, all_pieces c, quarters fun x : Fin 4 × Fin 2 => any c (accM.slice (aR (x.2, kp x.2 x.1 c)) fun _ => rfl)]
theorem out_pieces : (any c outM : sProp 𝕄) = iprop((bigSep Finset.univ fun x : Fin 4 × Fin 2 => any c (pO x.2 (nk x.2 x.1 c)))
    ∗ (bigSep Finset.univ fun x : Fin 2 × Fin 2 => any c (pO x.2 (kp x.2 (lo x.1) c))) ∗ bigSep Finset.univ fun x : Fin 2 × Fin 2 => any c (pO x.2 (kp x.2 (hi x.1) c))) := by
  rw [any_rects c outM xR (fun _ _ => rfl) xR_disjoint xR_cover, all_pieces c, quarters fun x : Fin 4 × Fin 2 => any c (outM.slice (xR (x.2, kp x.2 x.1 c)) fun _ => rfl)]
theorem out_of_pieces : iprop((bigSep Finset.univ fun x : Fin 4 × Fin 2 => at1 c (pO x.2 (nk x.2 x.1 c)) (k0_pay32 (fin X x.2 (nk x.2 x.1 c))))
    ∗ (bigSep Finset.univ fun x : Fin 2 × Fin 2 => at1 c (pO x.2 (kp x.2 (lo x.1) c)) (k0_pay32 (fin X x.2 (kp x.2 (lo x.1) c))))
    ∗ bigSep Finset.univ fun x : Fin 2 × Fin 2 => at1 c (pO x.2 (kp x.2 (hi x.1) c)) (k0_pay32 (fin X x.2 (kp x.2 (hi x.1) c)))) ⊢ at1 c outM (outAt X) := by
  refine Entails.trans (Entails.of_eq ?_) (out_join X c)
  rw [all_pieces c, quarters fun x : Fin 4 × Fin 2 => at1 c (pO x.2 (kp x.2 x.1 c)) (k0_pay32 (fin X x.2 (kp x.2 x.1 c)))]
theorem buf1_pieces : (any c s1M : sProp 𝕄) = bigSep Finset.univ fun x : Fin 4 × Fin 2 => any c (p1 x.2 x.1) :=
  any_rects c s1M r1 (fun _ _ => rfl) r1_disjoint r1_cover
theorem buf2_pieces : (any c s2M : sProp 𝕄) = bigSep Finset.univ fun x : Fin 2 × Fin 2 => any c (p2 x.2 x.1) :=
  any_rects c s2M r2 (fun _ _ => rfl) r2_disjoint r2_cover

/-- The own landing buffers are what the two signals hand the partners; -/
theorem bar_give : iprop((bigSep Finset.univ fun x : Fin 4 × Fin 2 => any (F := F) c (p1 x.2 x.1)) ∗ bigSep Finset.univ fun x : Fin 2 × Fin 2 => any (F := F) c (p2 x.2 x.1))
    ⊢ iprop(barPay (pal 0 c) 0 ∗ barPay (pal 1 c) 1) := by
  rw [both, both]
  unfold barPay
  rw [pal_pal, pal_pal]
  iintro ⟨⟨H0, H1⟩, G0, G1⟩
  isplitl [H0 G1]
  · isplitl [H0]; · iexact H0
    iexact G1
  · isplitl [H1]; · iexact H1
    iexact G0
/-- and the partners' signals hand over where the own transfers land. -/
theorem bar_take : iprop(barPay c 0 ∗ barPay c 1)
    ⊢ iprop((bigSep Finset.univ fun x : Fin 4 × Fin 2 => any (F := F) (pal x.2 c) (p1 x.2 x.1)) ∗ bigSep Finset.univ fun x : Fin 2 × Fin 2 => any (F := F) (mate x.2 c) (p2 x.2 x.1)) := by
  rw [both, both]
  unfold barPay
  iintro ⟨⟨H0, G1⟩, H1, G0⟩
  isplitl [H0 H1]
  · isplitl [H0]; · iexact H0
    iexact H1
  · isplitl [G0]; · iexact G0
    iexact G1

/-! ## Start and end -/

/-- What device `c` holds of the semaphores at the start: the rights to raise and its positions. -/
def seed : sProp 𝕄 :=
  iprop(dutyTok EK (barC (pal 0 c)) 0 0 ∗ dutyTok EK (barC (pal 1 c)) 0 1 ∗ (bigSep Finset.univ fun s : Fin 2 × Fin 12 => tick c s.1 s.2)
    ∗ bigSep Finset.univ fun k : Key => atPos EK (cell c k) 0 ∅ 0)
/-- What it is owed. -/
def funds : sProp 𝕄 :=
  iprop(cred (tallyAt (barC c) () 2) ∗ bigSep Finset.univ fun s : Fin 2 × Fin 12 => cred (tallyAt (rcvC c s.1 s.2) () N))
/-- The scratch buffers, whatever they hold. -/
def scratch : sProp 𝕄 := iprop(any c accM ∗ any c s1M ∗ any c s2M)
/-- All semaphores of the kernel back at zero. -/
def zeros : sProp 𝕄 := bigSep Finset.univ fun k : Key => semVal (cell c k) 0

/-- The rights to await every landing, by exchange. -/
theorem stubs : iprop((bigSep Finset.univ fun s : Fin 2 × Fin 12 => cred (tallyAt (rcvC c s.1 s.2) () N)) ∗ bigSep Finset.univ fun s : Fin 2 × Fin 12 => atPos EK (cell c (.inr (1, s))) 0 ∅ 0)
    ⊢ (bigSep Finset.univ fun s : Fin 2 × Fin 12 => stub c s.1 s.2 : sProp 𝕄) := by
  rw [← bigSep_sep']; exact .rfl

/-- A semaphore whose round is over can be closed; -/
theorem close_one (k : Key) : iprop(ctx X K ∗ done c k) ⊢ iprop(|={Set.univ}=> semVal (cell c k) 0 : sProp 𝕄) := by
  unfold ctx done
  iintro ⟨⟨#HR, -⟩, Ha⟩
  iapply (cell_close EK (Rd X) (Set.mem_univ (K (c, k))) (fun h => h) (R := 1) (duties_later X (cell c k)))
  isplitr; · iapply (inv_of X K c k); iexact HR
  iexact Ha

/-- so all can. -/
theorem close_all : iprop(ctx X K ∗ bigSep Finset.univ fun k : Key => done c k) ⊢ iprop(|={Set.univ}=> zeros (F := F) c) := by
  unfold zeros
  refine BI.Entails.trans ?_ (bigSep_fupd Finset.univ fun k : Key => semVal (cell c k) 0)
  refine (sep_mono_left (BI.bigSep_of_persistent (Finset.univ : Finset Key) (ctx X K))).trans ?_
  rw [← bigSep_sep']
  exact bigSep_mono fun k _ => close_one X K c k

theorem dev1_eq : ∀ c : Dev nD, (⟨k0_dev1 c, k0_dev1_lt c⟩ : Dev nD) = pal 0 c := by decide +kernel
theorem dev2_eq : ∀ c : Dev nD, (⟨k0_dev2 c, k0_dev2_lt c⟩ : Dev nD) = pal 1 c := by decide +kernel

/-- The body: from the staged input and empty buffers to the result, everything handed back. -/
theorem phases_run {Q : PUnit.{1} → sProp 𝕄} :
    iprop(ctx X K ∗ seed c ∗ funds c ∗ scratch c ∗ xs X c ∗ any c outM ∗ oweS c (O₀ c))
    ⊢ iprop(((xs X c ∗ at1 c outM (outAt X) ∗ scratch c ∗ zeros c ∗ oweS c 0) -∗ Q ⟨⟩) -∗ WP c (phases c) Q) := by
  unfold seed funds scratch phases
  iintro ⟨#HC, ⟨Hb0, Hb1, Htk, Hpos⟩, ⟨Hcb, Hcr⟩, ⟨Hacc, H1, H2⟩, Hx, Hout, HO⟩ Hk
  ihave #HR := (show ctx X K ⊢ recs X K from by unfold ctx; exact sep_elim_left) $$ HC
  ihave #HL := (show ctx X K ⊢ levAts L lv from by unfold ctx; exact sep_elim_right) $$ HC
  -- semaphores by exchange
  ihave Hpos := (Entails.of_eq (all_keys fun k : Key => atPos EK (cell c k) 0 ∅ 0)) $$ Hpos
  icases Hpos with ⟨Hab, Has, Har⟩
  ihave Hst := (stubs c) $$ [Hcr Har]
  · isplitl [Hcr]; · iexact Hcr
    iexact Har
  ihave Hst := (Entails.of_eq (exchanges fun s => stub c s.1 s.2)) $$ Hst
  icases Hst with ⟨Hst1, Hst2, Hst3, Hst4⟩
  ihave Hst1 := (Entails.of_eq (quarters fun x => stub c x.2 (t1 x.1))) $$ Hst1
  icases Hst1 with ⟨Hst1l, Hst1h⟩
  ihave Htk := (Entails.of_eq (exchanges fun s => tick c s.1 s.2)) $$ Htk
  icases Htk with ⟨Htk1, Htk2, Htk3, Htk4⟩
  ihave Htk4 := (Entails.of_eq (quarters fun x => tick c x.2 (t4 x.1))) $$ Htk4
  icases Htk4 with ⟨Htk4l, Htk4h⟩
  ihave Has := (Entails.of_eq (exchanges fun s => atPos EK (cell c (.inr (0, s))) 0 ∅ 0)) $$ Has
  icases Has with ⟨Has1, Has2, Has3, Has4⟩
  ihave Has4 := (Entails.of_eq (quarters fun x => atPos EK (cell c (.inr (0, x.2, t4 x.1))) 0 ∅ 0)) $$ Has4
  icases Has4 with ⟨Has4l, Has4h⟩
  -- buffers by piece
  ihave H1 := (Entails.of_eq (buf1_pieces c)) $$ H1
  ihave H2 := (Entails.of_eq (buf2_pieces c)) $$ H2
  ihave Hout := (Entails.of_eq (out_pieces c)) $$ Hout
  icases Hout with ⟨HoN, HoL, HoH⟩
  ihave Hacc := (Entails.of_eq (acc_pieces c)) $$ Hacc
  icases Hacc with ⟨HaN, HaK⟩
  ihave HaK := (Entails.of_eq (quarters fun x : Fin 4 × Fin 2 => any c (pA x.2 (kp x.2 x.1 c))).symm) $$ HaK
  -- the handshake
  ihave Hbar := (bar_give c) $$ [H1 H2]
  · isplitl [H1]; · iexact H1
    iexact H2
  icases Hbar with ⟨Hg0, Hg1⟩
  iapply (gSignal_rule X K c 0 (dev1_eq c) (O₁ c)) $$ [Hg0 Hb0 HO]
  · isplitr; · iexact HR
    isplitl [Hg0]; · iexact Hg0
    isplitl [Hb0]; · iexact Hb0
    iexact HO
  iintro HO
  iapply (gSignal_rule X K c 1 (dev2_eq c) (owed c sends)) $$ [Hg1 Hb1 HO]
  · isplitr; · iexact HR
    isplitl [Hg1]; · iexact Hg1
    isplitl [Hb1]; · iexact Hb1
    iexact HO
  iintro HO
  iapply (gBarrier_rule X K c sends (by decide)) $$ [Hcb Hab HO]
  · isplitr; · iexact HR
    isplitr; · iexact HL
    isplitl [Hcb]; · iexact Hcb
    isplitl [Hab]; · iexact Hab
    iexact HO
  iintro ⟨Hg0, Hg1, Hdb, HO⟩
  ihave Hbar := (bar_take c) $$ [Hg0 Hg1]
  · isplitl [Hg0]; · iexact Hg0
    iexact Hg1
  icases Hbar with ⟨HP1, HP2⟩
  -- exchange 1
  iapply (f1_phase X K c) $$ [HaN HP1 Htk1 Hx HO]
  · isplitr; · iexact HC
    isplitl [HaN HP1 Htk1]
    · isplitl [HaN]; · iexact HaN
      isplitl [HP1]; · iexact HP1
      iexact Htk1
    isplitl [Hx]; · iexact Hx
    iexact HO
  iintro ⟨Hs1, Hx, HO⟩
  iapply (f2_phase X K c) $$ [HaK Hx]
  · isplitr; · iexact HC
    isplitl [HaK]; · iexact HaK
    iexact Hx
  iintro ⟨HaK, Hx⟩
  ihave HaK := (Entails.of_eq (quarters fun x : Fin 4 × Fin 2 => at1 c (pA x.2 (kp x.2 x.1 c)) (inP X x.2 (kp x.2 x.1 c) c))) $$ HaK
  icases HaK with ⟨HaL, HaH⟩
  iapply (f3s_phase X K c) $$ [HaL Hst1l HP2 Htk2 HO]
  · isplitr; · iexact HC
    isplitr [HO]
    · isplitl [HaL]; · iexact HaL
      isplitl [Hst1l]; · iexact Hst1l
      isplitl [HP2]; · iexact HP2
      iexact Htk2
    iexact HO
  iintro ⟨⟨H1l, HpL, Hd1l, Hs2⟩, HO⟩
  iapply (f3_phase X K c) $$ [HaH Hst1h HO]
  · isplitr; · iexact HC
    isplitr [HO]
    · isplitl [HaH]; · iexact HaH
      iexact Hst1h
    iexact HO
  iintro ⟨⟨H1h, HpH, Hd1h, HaH⟩, HO⟩
  -- exchanges 2, 3 and 4
  iapply (f4_phase X K c) $$ [HaH Hst2 Htk3 Htk4h HpH HoH HO]
  · isplitr; · iexact HC
    isplitr [HO]
    · isplitl [HaH]; · iexact HaH
      isplitl [Hst2]; · iexact Hst2
      isplitl [Htk3]; · iexact Htk3
      isplitl [Htk4h]; · iexact Htk4h
      isplitl [HpH]; · iexact HpH
      iexact HoH
    iexact HO
  iintro ⟨⟨H2, Hd2, Hs3, Hs4h, HaH, HoH⟩, HO⟩
  iapply (f5_phase X K c) $$ [Hst3 Htk4l HpL HoL HO]
  · isplitr; · iexact HC
    isplitr [HO]
    · isplitl [Hst3]; · iexact Hst3
      isplitl [Htk4l]; · iexact Htk4l
      isplitl [HpL]; · iexact HpL
      iexact HoL
    iexact HO
  iintro ⟨⟨Hd3, Hs4l, HaL, HoL⟩, HO⟩
  iapply (f6_phase X K c) $$ [Hst4 HoN HO]
  · isplitr; · iexact HC
    isplitr [HO]
    · isplitl [Hst4]; · iexact Hst4
      iexact HoN
    iexact HO
  iintro ⟨⟨Hd4, HaN, HoN⟩, HO⟩
  -- the own sends
  iapply (w1_phase X K c) $$ [Hs1 Has1 HO]
  · isplitr; · iexact HC
    isplitr [HO]
    · isplitl [Hs1]; · iexact Hs1
      iexact Has1
    iexact HO
  iintro ⟨He1, HO⟩
  iapply (w2_phase X K c) $$ [Hs2 Has2 HO]
  · isplitr; · iexact HC
    isplitr [HO]
    · isplitl [Hs2]; · iexact Hs2
      iexact Has2
    iexact HO
  iintro ⟨He2, HO⟩
  iapply (w3_phase X K c) $$ [Hs3 Has3 Hs4h Has4h HaH HO]
  · isplitr; · iexact HC
    isplitr [HO]
    · isplitl [Hs3]; · iexact Hs3
      isplitl [Has3]; · iexact Has3
      isplitl [Hs4h]; · iexact Hs4h
      isplitl [Has4h]; · iexact Has4h
      iexact HaH
    iexact HO
  iintro ⟨⟨He3, He4h, HaH⟩, HO⟩
  iapply (w4_phase X K c) $$ [Hs4l Has4l HaL HO]
  · isplitr; · iexact HC
    isplitr [HO]
    · isplitl [Hs4l]; · iexact Hs4l
      isplitl [Has4l]; · iexact Has4l
      iexact HaL
    iexact HO
  iintro ⟨⟨He4l, HaL⟩, HO⟩
  unfold WP
  rw [wp_ret]
  -- all together again
  imod (close_all X K c) $$ [Hdb Hd1l Hd1h Hd2 Hd3 Hd4 He1 He2 He3 He4h He4l] with Hz
  · isplitr; · iexact HC
    iapply (Entails.of_eq (all_keys fun k : Key => done c k).symm)
    isplitl [Hdb]; · iexact Hdb
    isplitl [He1 He2 He3 He4h He4l]
    · iapply (Entails.of_eq (exchanges fun s => done c (.inr (0, s))).symm)
      isplitl [He1]; · iexact He1
      isplitl [He2]; · iexact He2
      isplitl [He3]; · iexact He3
      iapply (Entails.of_eq (quarters fun x => done c (.inr (0, x.2, t4 x.1))).symm)
      isplitl [He4l]; · iexact He4l
      iexact He4h
    · iapply (Entails.of_eq (exchanges fun s => done c (.inr (1, s))).symm)
      isplitl [Hd1l Hd1h]
      · iapply (Entails.of_eq (quarters fun x => done c (.inr (1, x.2, t1 x.1))).symm)
        isplitl [Hd1l]; · iexact Hd1l
        iexact Hd1h
      isplitl [Hd2]; · iexact Hd2
      isplitl [Hd3]; · iexact Hd3
      iexact Hd4
  imodintro
  iapply Hk
  isplitl [Hx]; · iexact Hx
  isplitl [HoN HoL HoH]
  · iapply (out_of_pieces X c)
    isplitl [HoN]; · iexact HoN
    isplitl [HoL]; · iexact HoL
    iexact HoH
  isplitl [HaN HaL HaH H1l H1h H2]
  · isplitl [HaN HaL HaH]
    · iapply (Entails.of_eq (acc_pieces c).symm)
      isplitl [HaN]; · iexact HaN
      isplitl [HaL]; · iexact HaL
      iexact HaH
    isplitl [H1l H1h]
    · iapply (Entails.of_eq (buf1_pieces c).symm)
      iapply (Entails.of_eq (quarters fun x : Fin 4 × Fin 2 => any c (p1 x.2 x.1)).symm)
      isplitl [H1l]; · iexact H1l
      iexact H1h
    · iapply (Entails.of_eq (buf2_pieces c).symm)
      iexact H2
  isplitl [Hz]; · iexact Hz
  iexact HO

end Cert.AllReduce

end
-- ==== Proof.Launch.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

/-! # The launch

The run of the whole program: every semaphore's round is set up, the rights to raise are dealt to the devices that
raise, every device runs the body, and at the end the result arrays hold the computed contents and all counters
are zero. -/

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole buffers -/

/-- Owning a whole buffer with contents `Y` is having its points at `Y`. -/
theorem owns_whole_eq (c : Dev nD) (b : Ref sig .tc) (Y : b.ty.Contents (Elt F)) :
    (owns (c : Thread nD τ) (Memref.whole b) fullShare Y : sProp 𝕄)
      = iprop(∃ f : Buf (Elt F) ((c : Thread nD τ).loc b), ⌜f = Y⌝ ∗ ((c : Thread nD τ).loc b) ↦{fullShare} f) := by
  unfold owns; simp only [Memref.view_whole, View.read_whole, View.set_whole]

theorem any_whole_in (c : Dev nD) (b : Ref sig .tc) :
    iprop(∃ f : Buf (Elt F) ((c : Thread nD τ).loc b), ((c : Thread nD τ).loc b) ↦{fullShare} f) ⊢ (any c (Memref.whole b) : sProp 𝕄) := by
  unfold any
  iintro ⟨%f, H⟩
  iexists f
  rw [owns_whole_eq]
  iexists f
  isplitr; · (ipureintro; rfl)
  iexact H
theorem any_whole_out (c : Dev nD) (b : Ref sig .tc) :
    (any c (Memref.whole b) : sProp 𝕄) ⊢ iprop(∃ f : Buf (Elt F) ((c : Thread nD τ).loc b), ((c : Thread nD τ).loc b) ↦{fullShare} f) := by
  unfold any
  simp only [owns_whole_eq]
  iintro ⟨%Y, %f, -, H⟩
  iexists f; iexact H

/-! ## Semaphore rounds at launch -/

theorem ownSemFacts : Pipeline.OwnSemFacts cfg0.spec xsem := by decide

def cellAt : Dev nD × Key ↪ GSem nD τ sig :=
  ⟨fun x => cell x.1 x.2, fun x y h => Prod.ext (cell_inj h).1 (cell_inj h).2⟩
def cells : Finset (GSem nD τ sig) := Finset.univ.map cellAt

/-- The rights to raise a device's own semaphores: two on its barrier, one on each transfer semaphore. -/
abbrev Right : Type := Fin 2 ⊕ XK
def rightOf : Right → Key × Fin 2
  | .inl d => (.inl (), d)
  | .inr k => (.inr k, 0)
theorem rightOf_inj : Function.Injective rightOf := by
  rintro (d | k) (d' | k') h
  · exact congrArg Sum.inl (congrArg Prod.snd h)
  · exact absurd (congrArg Prod.fst h) (by simp [rightOf])
  · exact absurd (congrArg Prod.fst h) (by simp [rightOf])
  · exact congrArg Sum.inr (Sum.inr.inj (congrArg Prod.fst h))
def rightAt : Dev nD × Right ↪ GSem nD τ sig × ℕ × Fin 2 :=
  ⟨fun x => (cell x.1 (rightOf x.2).1, 0, (rightOf x.2).2), fun x y h => by
    have hc := cell_inj (congrArg Prod.fst h)
    exact Prod.ext hc.1 (rightOf_inj (Prod.ext hc.2 (congrArg (fun z => z.2.2) h)))⟩
def rights : Finset (GSem nD τ sig × ℕ × Fin 2) := Finset.univ.map rightAt

def u₀ : UU :=
  (initOf (Pipeline.cells cfgs cellOf_inj) (Pipeline.launchToks cfgs cellOf_inj), initOf cells rights)

section Setup
variable (X : Inputs F)

/-- The rights to raise device `c`'s semaphores; -/
def ownRights (c : Dev nD) : sProp 𝕄 := bigSep Finset.univ fun r : Right => dutyTok EK (cell c (rightOf r).1) 0 (rightOf r).2
/-- the rights device `c` uses. -/
def useRights (c : Dev nD) : sProp 𝕄 :=
  iprop(dutyTok EK (barC (pal 0 c)) 0 0 ∗ dutyTok EK (barC (pal 1 c)) 0 1 ∗ bigSep Finset.univ fun s : Fin 2 × Fin 12 => tick c s.1 s.2)

theorem ownRights_eq (c : Dev nD) : (ownRights c : sProp 𝕄)
    = iprop((dutyTok EK (barC c) 0 0 ∗ dutyTok EK (barC c) 0 1)
      ∗ (bigSep Finset.univ fun s : Fin 2 × Fin 12 => dutyTok EK (sndC c s.1 s.2) 0 0) ∗ bigSep Finset.univ fun s : Fin 2 × Fin 12 => dutyTok EK (rcvC c s.1 s.2) 0 0) := by
  unfold ownRights
  rw [bigSep_univ_sum, bigSep_univ_two, bigSep_univ_prod fun k : XK => dutyTok EK (cell c (rightOf (.inr k)).1) 0 (rightOf (.inr k)).2, bigSep_univ_two]; rfl

/-- What the initial element gives for device `c`. -/
def G (c : Dev nD) : sProp 𝕄 :=
  iprop((bigSep Finset.univ fun k : Key => roundState EK (Rd X) (cell c k) 0)
    ∗ (bigSep Finset.univ fun k : Key => atPos EK (cell c k) 0 ∅ 0) ∗ (bigSep Finset.univ fun k : Key => reached EK (cell c k) 0) ∗ ownRights c)
/-- What the device starts with. -/
def G' (c : Dev nD) : sProp 𝕄 := iprop(∃ K, recs X K ∗ seed c)

theorem by_device (Φ : GSem nD τ sig → sProp 𝕄) : bigSep cells Φ = bigSep Finset.univ fun c : Dev nD => bigSep Finset.univ fun k : Key => Φ (cell c k) := by
  unfold cells; rw [bigSep_map, bigSep_univ_prod]; rfl
theorem rights_by_device : bigSep rights (fun x => (dutyTok EK x.1 x.2.1 x.2.2 : sProp 𝕄)) = bigSep Finset.univ fun c : Dev nD => ownRights c := by
  unfold rights; rw [bigSep_map, bigSep_univ_prod]; rfl

theorem fund : BI.own (EK (initOf cells rights)) ⊢ (|==> bigSep Finset.univ (G X) : sProp 𝕄) := by
  iintro HX
  imod (Rounds.fund EK (Rd X) cells rights) $$ HX with ⟨Hst, Hr, Hat, Htok⟩
  imodintro
  ihave Hst := (Entails.of_eq (by_device fun g => roundState EK (Rd X) g 0)) $$ Hst
  ihave Hat := (Entails.of_eq (by_device fun g => atPos EK g 0 ∅ 0)) $$ Hat
  ihave Hr := (Entails.of_eq (by_device fun g => reached EK g 0)) $$ Hr
  ihave Htok := (Entails.of_eq rights_by_device) $$ Htok
  unfold G; simp only [bigSep_sep']
  isplitl [Hst]; · iexact Hst
  isplitl [Hat]; · iexact Hat
  isplitl [Hr]; · iexact Hr
  iexact Htok

/-- The barrier semaphore is the one outside every scope; -/
theorem unscopedSems0_eq (c : Dev nD) : (unscopedSems0 c : sProp 𝕄) = semVal (barC c) 0 := by
  unfold unscopedSems0; rw [bigSep_eq_bigSepL_of_eq [SemLoc.reg barrier0] (by decide) (by decide)]; rfl
/-- so the counters at zero are the kernel's own and it. -/
theorem zeros_eq (c : Dev nD) : (zeros c : sProp 𝕄)
    = iprop(unscopedSems0 c ∗ Pipeline.ownSems0 (Ix := Unit) (Name := ℕ) (U := UU) (Lvl := ℕ) (Val := Elt F) (τ := τ) xsem c) := by
  unfold zeros
  rw [bigSep_univ_sum, bigSep_univ_of_subsingleton (Φ := fun u : Unit => semVal (cell c (.inl u)) 0) (), unscopedSems0_eq]; rfl

theorem open_cells (c : Dev nD) :
    iprop((bigSep Finset.univ fun k : Key => semVal (cell c k) 0) ∗ bigSep Finset.univ fun k : Key => roundState EK (Rd X) (cell c k) 0)
      ⊢ (|={Set.univ}=> bigSep Finset.univ fun k : Key => iprop(∃ κ : ℕ, cellInv EK (Rd X) κ (cell c k)) : sProp 𝕄) := by
  rw [← bigSep_sep']
  exact (bigSep_mono fun k _ => (Rounds.body_intro EK (Rd X) (cell c k)).trans inv_alloc).trans (bigSep_fupd _ _)

/-- A device after its invariants are made. -/
def opened (c : Dev nD) : sProp 𝕄 :=
  iprop((bigSep Finset.univ fun k : Key => iprop(∃ κ : ℕ, cellInv EK (Rd X) κ (cell c k)))
    ∗ (bigSep Finset.univ fun k : Key => atPos EK (cell c k) 0 ∅ 0) ∗ (bigSep Finset.univ fun k : Key => reached EK (cell c k) 0) ∗ ownRights c)

theorem core_alloc (c : Dev nD) :
    iprop(Pipeline.ownSems0 (Ix := Unit) (Name := ℕ) (U := UU) (Lvl := ℕ) (Val := Elt F) (τ := τ) xsem c ∗ unscopedSems0 c ∗ G X c)
      ⊢ |={Set.univ}=> opened X c := by
  unfold G opened
  iintro ⟨Hos, Hus, Hst, Hat, Hr, Htok⟩
  ihave Hv := (Entails.of_eq (zeros_eq (F := F) c).symm) $$ [Hos Hus]
  · isplitl [Hus] <;> iassumption
  unfold zeros
  imod (open_cells X c) $$ [Hv Hst] with Hinv
  · isplitl [Hv] <;> iassumption
  imodintro
  isplitl [Hinv]; · iexact Hinv
  isplitl [Hat]; · iexact Hat
  isplitl [Hr]; · iexact Hr
  iexact Htok

/-- Partners, as a permutation of the devices; and the receivers of all transfers, as one of (device, transfer). -/
def palE (d : Fin 2) : Dev nD ≃ Dev nD := ⟨pal d, pal d, pal_pal d, pal_pal d⟩
def destE : Dev nD × (Fin 2 × Fin 12) ≃ Dev nD × (Fin 2 × Fin 12) :=
  ⟨fun x => (dest x.2.1 x.2.2 x.1, x.2), fun x => (dest x.2.1 x.2.2 x.1, x.2), fun x => Prod.ext (dest_dest _ _ _) rfl, fun x => Prod.ext (dest_dest _ _ _) rfl⟩

theorem deal_receive : (bigSep Finset.univ fun c : Dev nD => bigSep Finset.univ fun s : Fin 2 × Fin 12 => (dutyTok EK (rcvC c s.1 s.2) 0 0 : sProp 𝕄))
    = bigSep Finset.univ fun c : Dev nD => bigSep Finset.univ fun s : Fin 2 × Fin 12 => dutyTok EK (rcvC (dest s.1 s.2 c) s.1 s.2) 0 0 := by
  rw [← bigSep_univ_prod (fun x : Dev nD × (Fin 2 × Fin 12) => (dutyTok EK (rcvC x.1 x.2.1 x.2.2) 0 0 : sProp 𝕄)), bigSep_univ_equiv destE, bigSep_univ_prod]; rfl
theorem deal_barrier (d e : Fin 2) : (bigSep Finset.univ fun c : Dev nD => (dutyTok EK (barC c) 0 e : sProp 𝕄))
    = bigSep Finset.univ fun c : Dev nD => dutyTok EK (barC (pal d c)) 0 e := by
  rw [bigSep_univ_equiv (palE d)]; rfl
theorem tick_eq (c : Dev nD) : (bigSep Finset.univ fun s : Fin 2 × Fin 12 => (tick c s.1 s.2 : sProp 𝕄))
    = iprop((bigSep Finset.univ fun s : Fin 2 × Fin 12 => dutyTok EK (sndC c s.1 s.2) 0 0)
      ∗ bigSep Finset.univ fun s : Fin 2 × Fin 12 => dutyTok EK (rcvC (dest s.1 s.2 c) s.1 s.2) 0 0) := by
  rw [← bigSep_sep']; rfl

/-- The rights are dealt to the devices that use them. -/
theorem deal : (bigSep Finset.univ fun c : Dev nD => (ownRights c : sProp 𝕄)) ⊢ bigSep Finset.univ fun c : Dev nD => useRights c := by
  unfold useRights
  simp only [ownRights_eq, tick_eq, bigSep_sep']
  rw [deal_receive, deal_barrier 0 0, deal_barrier 1 1]
  iintro ⟨⟨H0, H1⟩, Hs, Hr⟩
  isplitl [H0]; · iexact H0
  isplitl [H1]; · iexact H1
  isplitl [Hs] <;> iassumption

theorem start_one (K : Dev nD × Key → ℕ) (c : Dev nD) : iprop(recs X K ∗ ((bigSep Finset.univ fun k : Key => atPos EK (cell c k) 0 ∅ 0) ∗ useRights c)) ⊢ G' X c := by
  unfold G' seed useRights
  iintro ⟨HR, Hat, H0, H1, Ht⟩
  iexists K
  isplitl [HR]; · iexact HR
  isplitl [H0]; · iexact H0
  isplitl [H1]; · iexact H1
  isplitl [Ht] <;> iassumption

theorem start_all (K : Dev nD × Key → ℕ) :
    iprop(recs X K ∗ bigSep Finset.univ fun c : Dev nD => iprop((bigSep Finset.univ fun k : Key => atPos EK (cell c k) 0 ∅ 0) ∗ useRights c)) ⊢ bigSep Finset.univ (G' X) :=
  (sep_mono_left (BI.bigSep_of_persistent Finset.univ (recs X K))).trans (by rw [← bigSep_sep']; exact bigSep_mono fun c _ => start_one X K c)

theorem regroup : bigSep Finset.univ (opened X) ⊢ bigSep Finset.univ (G' X) := by
  unfold opened
  simp only [bigSep_sep']
  rw [← bigSep_univ_prod (fun ck : Dev nD × Key => iprop(∃ κ : ℕ, cellInv EK (Rd X) κ (cell ck.1 ck.2))),
    ← bigSep_univ_prod (fun ck : Dev nD × Key => (reached EK (cell ck.1 ck.2) 0 : sProp 𝕄))]
  iintro ⟨HI, Hat, #Hr, Htok⟩
  ihave HK := (BI.bigSep_exists_pi Finset.univ (fun (ck : Dev nD × Key) (κ : ℕ) => (cellInv EK (Rd X) κ (cell ck.1 ck.2) : sProp 𝕄))) $$ HI
  icases HK with ⟨%K, #HI⟩
  ihave Htok := (deal (F := F)) $$ Htok
  iapply (start_all X K)
  isplitr
  · unfold recs; isplitl; · iexact HI
    iexact Hr
  · rw [bigSep_sep']
    isplitl [Hat] <;> iassumption

theorem glob : (bigSep Finset.univ fun c => iprop(Pipeline.ownSems0 (Ix := Unit) (Name := ℕ) (U := UU) (Lvl := ℕ) (Val := Elt F) (τ := τ) xsem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Setup

/-! ## What is owed at launch -/

theorem rcv_inj {c c' : Dev nD} {s s' : Fin 2 × Fin 12} (h : rcvC c s.1 s.2 = rcvC c' s'.1 s'.2) : c = c' ∧ s = s' := by
  have := cell_inj (k := .inr (1, s)) (k' := .inr (1, s')) h
  exact ⟨this.1, congrArg Prod.snd (Sum.inr.inj this.2)⟩
theorem rcv_ne_bar {c c' : Dev nD} {s : Fin 2 × Fin 12} (h : rcvC c s.1 s.2 = barC c') : False := by
  have := cell_inj (k := .inr (1, s)) (k' := .inl ()) h
  exact absurd this.2 (by simp)

theorem owed_bar (d c : Dev nD) (l : List (Fin 2 × Fin 12)) : owed d l (barC c) () = 0 := by
  by_contra h
  obtain ⟨s, -, e⟩ := owed_pos (Nat.pos_of_ne_zero h)
  exact rcv_ne_bar e.symm

theorem owed_rcv (d c : Dev nD) (s : Fin 2 × Fin 12) : ∀ l : List (Fin 2 × Fin 12), l.Nodup →
    owed d l (rcvC c s.1 s.2) () = if s ∈ l ∧ dest s.1 s.2 d = c then N else 0
  | [], _ => by rw [if_neg fun h => absurd h.1 List.not_mem_nil]; rfl
  | a :: l, hl => by
    unfold owed
    rw [Pi.add_apply, Finsupp.add_apply, owed_rcv d c s l (List.nodup_cons.mp hl).2, tallyAt_apply]
    by_cases ha : s = a
    · subst ha
      rw [if_neg fun h => (List.nodup_cons.mp hl).1 h.1, Nat.zero_add]
      by_cases hd : dest s.1 s.2 d = c
      · rw [if_pos ⟨by rw [hd], rfl⟩, if_pos ⟨List.mem_cons_self, hd⟩]
      · rw [if_neg fun h => hd (rcv_inj h.1).1.symm, if_neg fun h => hd h.2]
    · have e : ¬ (rcvC c s.1 s.2 = rcvC (dest a.1 a.2 d) a.1 a.2 ∧ () = ()) := fun h => ha (rcv_inj h.1).2
      rw [if_neg e, Nat.add_zero]
      simp only [List.mem_cons, ha, false_or]

theorem tally_bar (a c : Dev nD) : (tallyAt (barC a) () 1 : CellTallies nD τ sig Unit) (barC c) () = if a = c then 1 else 0 := by
  rw [tallyAt_apply]
  by_cases h : a = c
  · rw [if_pos ⟨by rw [h], rfl⟩, if_pos h]
  · rw [if_neg fun h' => h (cell_inj (k := .inl ()) (k' := .inl ()) h'.1).1.symm, if_neg h]
theorem tally_rcv (a c : Dev nD) (s : Fin 2 × Fin 12) : (tallyAt (barC a) () 1 : CellTallies nD τ sig Unit) (rcvC c s.1 s.2) () = 0 := by
  rw [tallyAt_apply]; exact if_neg fun h' => rcv_ne_bar h'.1

theorem O₀_bar (d c : Dev nD) : O₀ d (barC c) () = (if pal 1 d = c then 1 else 0) + if pal 0 d = c then 1 else 0 := by
  unfold O₀ O₁
  rw [Pi.add_apply, Finsupp.add_apply, Pi.add_apply, Finsupp.add_apply, owed_bar, tally_bar, tally_bar, Nat.zero_add]
theorem O₀_rcv (d c : Dev nD) (s : Fin 2 × Fin 12) : O₀ d (rcvC c s.1 s.2) () = if dest s.1 s.2 d = c then N else 0 := by
  unfold O₀ O₁
  rw [Pi.add_apply, Finsupp.add_apply, Pi.add_apply, Finsupp.add_apply, owed_rcv d c s sends sends_nodup, tally_rcv, tally_rcv, Nat.add_zero]
  exact if_congr (and_iff_right (sends_all s)) rfl rfl

theorem sum_pal : ∀ c : Dev nD, (∑ d : Dev nD, ((if pal 1 d = c then 1 else 0) + if pal 0 d = c then 1 else 0)) = 2 := by decide
theorem sum_dest (s : Fin 2 × Fin 12) (c : Dev nD) : (∑ d : Dev nD, if dest s.1 s.2 d = c then N else 0) = N := by
  have e : ∀ d, dest s.1 s.2 d = c ↔ d = dest s.1 s.2 c := fun d => ⟨fun h => by rw [← h, dest_dest], fun h => by rw [h, dest_dest]⟩
  simp only [e]
  rw [Finset.sum_ite_eq', if_pos (Finset.mem_univ _)]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => O₀_bar d c, sum_pal]
theorem launch_rcv (c : Dev nD) (s : Fin 2 × Fin 12) :
    tallyOn (rcvC c s.1 s.2) (launchCredit (Pipeline.owing O₀) 0 (rcvC c s.1 s.2)) = (tallyAt (rcvC c s.1 s.2) () N : CellTallies nD τ sig Unit) := by
  unfold tallyAt; refine congrArg _ (Finsupp.ext fun u => ?_); cases u
  rw [Pipeline.launchCredit_owing, Finsupp.single_eq_same, Finset.sum_congr rfl fun d _ => O₀_rcv d c s, sum_dest]

theorem keep_ends {A B C : sProp 𝕄} : iprop(A ∗ B ∗ C) ⊢ iprop(A ∗ C) := by
  iintro ⟨H, -, Hr⟩
  isplitl [H] <;> iassumption

/-- A device's credit at launch holds what its waits need. -/
theorem credits (c : Dev nD) : (Pipeline.launchCred O₀ c : sProp 𝕄) ⊢ funds c := by
  unfold Pipeline.launchCred
  have hk : Function.Injective ksem := fun k k' h => Option.some.inj (by rw [← key_ksem, ← key_ksem, h])
  refine (bigSep_subset (Finset.subset_univ (Finset.univ.map ⟨ksem, hk⟩))).trans ?_
  rw [bigSep_map, all_keys]
  unfold funds
  have e : ∀ s : Fin 2 × Fin 12, (cred (tallyAt (rcvC c s.1 s.2) () N) : sProp 𝕄)
      = cred (tallyOn (cell c (.inr (1, s))) (launchCredit (Pipeline.owing O₀) 0 (cell c (.inr (1, s))))) := fun s => congrArg _ (launch_rcv c s).symm
  simp only [e, ← launch_bar]
  exact keep_ends

/-! ## The program -/

section Run
variable (m : (ℓ : Loc nD τ sig) → Buf (Elt F) ℓ) (ρ : Dev nD → PrngReg)

/-- The state at launch: memory `m`, all counters zero. -/
def s₀ : MemSt nD τ sig (Elt F) := ⟨m, fun _ => 0, ρ⟩
/-- The staged inputs. -/
def staged : Inputs F := fun c => (win0_0.blk (0 : Fin 1)).view.read (Elt F) ((s₀ m ρ).mem (win0_0.arr.view.loc (c : Thread nD τ)))

/-- What device `c` holds when its body starts, besides the scratch buffers. -/
def start (c : Dev nD) : sProp 𝕄 := iprop(G' (staged m ρ) c ∗ funds c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => staged m ρ c
    | ⟨1, _⟩ => outAt (staged m ρ)
  Φ t := match t with
    | ⟨0, _⟩ => iprop(start m ρ c ∗ scratch c)
    | ⟨_ + 1, _⟩ => iprop(scratch c ∗ zeros c)
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem fetch_0 (t : Fin grid0.N) : (cfg0.win 0).fetch t = true := by rw [fin_N0 t]; rfl
theorem before_0 (c : Dev nD) (t : Fin grid0.N) (d) : (dats m ρ 0 c).before (0 : Fin 2) t d = staged m ρ c := by
  rw [fin_N0 t]; unfold Dat.before; rw [if_pos (fetch_0 t0_0)]; rfl

/-- A staging buffer's points. -/
abbrev stg (c : Dev nD) (b : Ref sig .tc) (Y : b.ty.Contents (Elt F)) : sProp 𝕄 :=
  iprop(∃ f : Buf (Elt F) ((c : Thread nD τ).loc b), ⌜f = Y⌝ ∗ ((c : Thread nD τ).loc b) ↦{fullShare} f)
/-- What the body starts from, and what it ends with. -/
def bodyPre (c : Dev nD) : sProp 𝕄 :=
  iprop((start m ρ c ∗ scratch c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop((scratch c ∗ zeros c) ∗ (dats m ρ 0 c).owesAt () t0_0.succ
    ∗ stg c cc0_stg0_0 (staged m ρ c) ∗ stg c cc0_stg1_0 (outAt (staged m ρ)))

theorem sound_body (c : Dev nD) : bodyPre m ρ c ⊢ WP c (cc0_body xM (Memref.isWhole_whole _) outM (Memref.isWhole_whole _)
      accM (Memref.isWhole_whole _) s1M (Memref.isWhole_whole _) s2M (Memref.isWhole_whole _) cc0_scratch3 cc0_scratch4) (fun _ => bodyPost m ρ c) := by
  rw [cc0_body_eq_skeleton, body_eq]
  unfold bodyPre start G' Dat.owesAt Pipeline.owesWithin
  simp only [before_0]
  iintro ⟨⟨⟨⟨%K, HR, Hseed⟩, Hf, Hlev⟩, Hscr⟩, ⟨%W, %hW, HO⟩, ⟨%d0, %f0, %e0, Hx⟩, ⟨%d1, Hout⟩⟩
  unfold WP
  rw [wp_deviceId]
  iapply (phases_run (staged m ρ) K c) $$ [HR Hseed Hf Hlev Hscr HO Hx Hout]
  · unfold ctx
    isplitl [HR Hlev]
    · isplitl [HR] <;> iassumption
    isplitl [Hseed]; · iexact Hseed
    isplitl [Hf]; · iexact Hf
    isplitl [Hscr]; · iexact Hscr
    isplitl [Hx]
    · iapply (show ((c : Thread nD τ).loc cc0_stg0_0 ↦{fullShare} f0) ⊢ xs (staged m ρ) c from by unfold xs; rw [e0]); iexact Hx
    isplitl [Hout]
    · unfold any; iexists _; rw [owns_whole_eq]; iexact Hout
    unfold oweS; iexists W; iexact HO
  unfold bodyPost Dat.owesAt Pipeline.owesWithin oweS at1 xs
  rw [owns_whole_eq]
  iintro ⟨Hx, Hout, Hscr, Hz, ⟨%W', HO⟩⟩
  isplitl [Hscr Hz]
  · isplitl [Hscr] <;> iassumption
  isplitl [HO]
  · iexists W'
    isplitr; · (ipureintro; exact fun _ _ => Or.inl trivial)
    iexact HO
  isplitl [Hx]
  · iexists _; isplitr; · (ipureintro; rfl)
    iexact Hx
  iexact Hout

set_option maxRecDepth 20000 in
theorem body_obligation (c : Dev nD) : BodyObligation (dats (F := F) m ρ 0 c) (defs₀ (F := F)) 𝒱₀ () Set.univ := fun t => by
  rw [fin_N0 t, bigSep_W0, bigSep_W0]
  simp only [owns_whole_eq]
  exact sound_body m ρ c

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (staged m ρ) c)
      ⊢ |={Set.univ}=> iprop(start m ρ c ∗ emp) := by
  iintro ⟨-, Hlev, Hcr, -, HG⟩
  ihave Hf := (credits (F := F) c) $$ Hcr
  imodintro
  unfold start
  isplitl
  · isplitl [HG]; · iexact HG
    isplitl [Hf] <;> iassumption
  · iempintro

set_option maxRecDepth 20000 in
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, H0, H1, H2⟩
  isplitl [Hs]; · iexact Hs
  isplitl [H0]; · iapply (any_whole_in c cc0_scratch0); iexact H0
  isplitl [H1]; · iapply (any_whole_in c cc0_scratch1); iexact H1
  iapply (any_whole_in c cc0_scratch2); iexact H2

set_option maxRecDepth 20000 in
theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = iprop(scratch c ∗ zeros c) from rfl, scopedRest0_eq, zeros_eq]
  unfold scratch
  iintro ⟨⟨H0, H1, H2⟩, Hu, Ho⟩
  isplitl [Hu]; · iexact Hu
  isplitl [Ho]; · iexact Ho
  isplitl [H0]; · iapply (any_whole_out c cc0_scratch0); iexact H0
  isplitl [H1]; · iapply (any_whole_out c cc0_scratch1); iexact H1
  iapply (any_whole_out c cc0_scratch2); iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- On the mesh of four devices, for any float values and any memory: every execution of the program terminates, the
    arrays of the launch end at the computed contents, and every counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (staged m ρ)) (G' := G' (staged m ρ)) (u₀ := u₀)
    (hu₀ := by
      unfold u₀
      iintro Hu
      ihave H := (ownU_pair _ _) $$ Hu
      icases H with ⟨HP, HX⟩
      imod (fund (staged m ρ)) $$ HX with HG
      imodintro
      isplitl [HP] <;> iassumption)
    (hglob := glob (staged m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is as it was. -/
theorem finalA_arg (c : Dev nD) : finalA m ρ c (0 : Fin 2) = m (win0_0.arr.view.loc (c : Thread nD τ)) :=
  (dats (F := F) m ρ 0 c).arrAt_in (0 : Fin 2) rfl _

end Run

end Cert.AllReduce

end
-- ==== Proof.Value.lean ====
module

public import proofs.«01_k».proof.Proof.Launch
public import proofs.«01_k».proof.Proof.Gen.ReferenceIdeal.Run
public import Idealize.ShloMosaic.Lib.Pipeline.Value
public import Idealize.ShloMosaic.Lib.Pipeline.ValueKit
public import Idealize.ShloMosaic.Lib.IdealHost
public import Idealize.ShloMosaic.Lib.Pointwise.Reduce
public import Idealize.ShloMosaic.Lib.Layout

/-! # The value

Over extended reals the result array of every device is, element by element, the sum over the four devices of their
argument arrays, and the reference's result is the same sum. -/

@[expose] public section

noncomputable section

namespace Cert.AllReduce

open Cert.KernelIdeal Cert.KernelIdeal.Gen
open Idealize.ShloMosaic
open Idealize.ShloMosaic.TcCoe
open Idealize.SL.Sem
open Idealize.ShloMosaic.Pipeline (Dat Cfg Window)

/-! ## What a piece holds at the end -/

section Piece
variable {F : FTy → Type} [FloatOps F]

/-- A tile stored as a piece and read back as a tile is the tile, -/
theorem tile_of_piece (v : Vec F S256x512 .bf16) : k0_pay32 (k0_pay3 v) = v := by
  unfold k0_pay32 k0_pay3
  rw [shapeCast_shapeCast, shapeCast_self]

/-- and the tile of a sum of pieces is the sum of their tiles. -/
theorem tile_of_sum (a b : Vec F S1x256x512 .bf16) : k0_pay32 (k0_pay19 a b) = addf (k0_pay32 a) (k0_pay32 b) := by
  unfold k0_pay32 k0_pay19
  rw [shapeCast_shapeCast]

/-- Tile `x` of device `c`'s input. -/
def tile (X : Inputs F) (x : Fin 2 × Fin 8) (c : Dev nD) : Vec F S256x512 .bf16 := fun y => X c ((xR x).emb y)

theorem piece_in (X : Inputs F) (d : Fin 2) (ρ : Fin 8) (c : Dev nD) : k0_pay32 (inP X d ρ c) = tile X (d, ρ) c := by
  unfold inP
  rw [tile_of_piece]
  rfl

theorem kp_own : ∀ d ρ, kp d (hi (num ρ)) (own d ρ) = ρ := by decide

/-- The finished tile: the owner adds its own tile, its first partner's, and what its second partner had added up. -/
theorem piece_fin (X : Inputs F) (d : Fin 2) (ρ : Fin 8) : k0_pay32 (fin X d ρ)
    = addf (addf (tile X (d, ρ) (own d ρ)) (tile X (d, ρ) (pal d (own d ρ))))
        (addf (tile X (d, ρ) (mate d (own d ρ))) (tile X (d, ρ) (pal d (mate d (own d ρ))))) := by
  unfold fin sumB sumA
  rw [kp_mate_lo, kp_own, tile_of_sum, tile_of_sum, tile_of_sum, piece_in, piece_in, piece_in, piece_in]

end Piece

/-! ## The sum over the devices -/

/-- A device, its first partner, its second partner and that one's first partner are the four devices. -/
theorem sum_partners {M : Type} [AddCommMonoid M] (f : Dev nD → M) (d : Fin 2) (c : Dev nD) :
    f c + f (pal d c) + (f (mate d c) + f (pal d (mate d c))) = ∑ s, f s := by
  have h : ∀ d c, (Finset.univ : Finset (Dev nD)) = {c, pal d c, mate d c, pal d (mate d c)}
      ∧ c ∉ ({pal d c, mate d c, pal d (mate d c)} : Finset (Dev nD)) ∧ pal d c ∉ ({mate d c, pal d (mate d c)} : Finset (Dev nD))
      ∧ mate d c ∉ ({pal d (mate d c)} : Finset (Dev nD)) := by decide
  obtain ⟨h0, h1, h2, h3⟩ := h d c
  rw [h0, Finset.sum_insert h1, Finset.sum_insert h2, Finset.sum_insert h3, Finset.sum_singleton, add_assoc]

/-- The sum over the devices. -/
def total (f : Dev nD → EReal) : EReal := ∑ c, f c

/-- The result, element by element: the sum over the devices. -/
theorem outAt_eq (X : Inputs Ideal) : outAt X = fun x => total fun c => X c x := by
  refine Rect.ext_of_cover xR xR_cover fun t y => ?_
  unfold outAt
  rw [Rect.glue_emb xR xR_cover xR_disjoint, piece_fin]
  exact sum_partners (M := EReal) (fun c => X c ((xR t).emb y)) t.1 (own t.1 t.2)

/-! ## The result array -/

section Arrays
variable {F : FTy → Type} [FloatOps F]
variable (m : (ℓ : Loc nD τ sig) → Buf (Elt F) ℓ) (ρ : Dev nD → PrngReg)

/-- The block a device stages is its argument array. -/
theorem staged_eq (c : Dev nD) : staged m ρ c = m ((c : Thread nD τ).loc main_arg0) := by
  funext i
  refine congrArg (m ((c : Thread nD τ).loc main_arg0)) (funext fun a => Fin.ext ?_ : (win0_0.rect t0_0).emb i = i)
  exact win0_0.rect_emb_val_of_index_zero t0_0 a (by revert a; decide +kernel) i

/-- The result array ends at what the body left in its staging buffer. -/
theorem finalA_out (c : Dev nD) : finalA m ρ c (1 : Fin 2) = outAt (staged m ρ) :=
  (dats m ρ 0 c).arrAt_eq_of_after_last (1 : Fin 2) t0_0 (by decide +kernel) _ fun j => by
    blk_simp
    rfl

end Arrays

/-! ## The reference -/

/-- The reference's result at an element is the sum over the devices of their blocks of the whole array. -/
theorem reference_eq (X : Vec Ideal Cert.ReferenceIdeal.S8192x1024 .bf16) :
    truncf (F := Ideal) .bf16 (Host.reduceAdd (extf .f32 (shapeCast Cert.ReferenceIdeal.S4x2048x1024 X Cert.ReferenceIdeal.Facts₀.shapeCasts_S8192x1024_S4x2048x1024) Cert.ReferenceIdeal.Facts₀.bitsLt_bf16_f32)
      (constant Cert.ReferenceIdeal.S_ .f32 0x00000000#32) Cert.ReferenceIdeal.Facts₀.reducesTo_S4x2048x1024_S2048x1024_d0 Cert.ReferenceIdeal.Facts₀.h_S_) Cert.ReferenceIdeal.Facts₀.bitsLt_bf16_f32
      = fun x => total fun c => (Layout.block ⟨2, ![2048, 1024]⟩ ⟨2, ![8192, 1024]⟩ 0 4 c X) x := by
  funext x
  show Host.reduceAdd (F := Ideal) _ _ _ _ x = _
  rw [ValueIdx.hostReduceAdd_apply, Ideal.hostReduceAdd_r3_a0]
  show Ideal.ofBits .f32 0x00000000#32 + _ = _
  rw [Ideal.ofBits_zero_f32, zero_add]
  refine Finset.sum_congr rfl fun c _ => ?_
  refine (shapeCast_apply X _ _ (Layout.Tiles.idx (by decide : Layout.Tiles ⟨2, ![2048, 1024]⟩ ⟨2, ![8192, 1024]⟩ 0 4) c x) ?_).trans rfl
  rw [Shape.rowMajor_val_two, Shape.rowMajor_val_three]
  rfl

end Cert.AllReduce

end
-- ==== Proof.lean ====
/- The claims of Defs.lean, from the one run of the kernel (Proof/Launch.lean), the value of its result (Proof/Value.lean)
   and the run of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.AllReduce

set_option maxRecDepth 20000 in
/-- The kernel and its idealization have the same bodies, -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- and so the same table of bodies and pipelines. -/
theorem tables_eq : Cert.Kernel.defs (F := Bits) = Cert.KernelIdeal.defs (F := Bits) :=
  congrArg (Pipeline.defs (Cert.Kernel.pcfgs (F := Bits))) bodies_eq

/-- The kernel at bit-exact floats: every execution ends, with the argument as it was and every counter at zero. It is the
    one run of Proof/Launch.lean, read at these values. -/
theorem frame_kernel : Cert.quiescent_Kernel := by
  intro m ρ _
  rw [tables_eq]
  exact (θ_run Cert.KernelIdeal.defs _ _).mono (fun _ h => ⟨fun c => (h.1 c (0 : Fin 2)).trans (finalA_arg m ρ c), h.2⟩)
    (run_main (F := Bits) m ρ)

/-- The same run over extended reals. -/
theorem frame_kernelIdeal : Cert.quiescent_KernelIdeal := fun m ρ _ =>
  (θ_run Cert.KernelIdeal.defs _ _).mono (fun _ h => ⟨fun c => (h.1 c (0 : Fin 2)).trans (finalA_arg m ρ c), h.2⟩)
    (run_main (F := Ideal) m ρ)

/-- The reference ends with its argument as it was; it has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- If every device's argument is its block of the reference's, every device's result is the reference's: at each element
    both are the sum over the devices. -/
theorem algebraic : Cert.algebraic_KernelIdeal_ReferenceIdeal := by
  intro m ρ m' ρ' _ hblk
  refine ⟨fun x => total fun c => (Layout.block ⟨2, ![2048, 1024]⟩ ⟨2, ![8192, 1024]⟩ 0 4 c (m' ((0 : Dev Cert.ReferenceIdeal.nD).tc.loc Cert.ReferenceIdeal.main_arg0))) x, ?_, ?_⟩
  · refine (θ_run Cert.KernelIdeal.defs _ _).mono (fun r h c => ⟨?_, (h.1 c (0 : Fin 2)).trans (finalA_arg m ρ c)⟩) (run_main (F := Ideal) m ρ)
    refine ((h.1 c (1 : Fin 2)).trans (finalA_out m ρ c)).trans ((outAt_eq _).trans (funext fun x => ?_))
    refine congrArg total (funext fun s => ?_)
    rw [staged_eq, hblk s]
  · exact (θ_run Cert.ReferenceIdeal.defs _ _).mono (fun r h => ⟨(h 0).1.trans (reference_eq _), (h 0).2⟩)
      (Cert.ReferenceIdeal.Value.run (F := Ideal) m' ρ')

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
